-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_5)) (v5 : (c : Dev Cert.KernelIdeal.nD) → Buf (Elt Ideal) ((c.tc : Thread Cert.KernelIdeal.nD Cert.KernelIdeal.τ).loc Cert.KernelIdeal.main_v14_4)) (v6 : (c : Dev Cert.KernelIdeal.nD) → Buf (Elt Ideal) ((c.tc : Thread Cert.KernelIdeal.nD Cert.KernelIdeal.τ).loc Cert.KernelIdeal.main_v14_7)) (v7 : (c : Dev Cert.KernelIdeal.nD) → Buf (Elt Ideal) ((c.tc : Thread Cert.KernelIdeal.nD Cert.KernelIdeal.τ).loc Cert.KernelIdeal.main_v14_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_5) = v4 c
          ∧ r.2.mem ((c.tc : Thread Cert.KernelIdeal.nD Cert.KernelIdeal.τ).loc Cert.KernelIdeal.main_v14_4) = v5 c
          ∧ r.2.mem ((c.tc : Thread Cert.KernelIdeal.nD Cert.KernelIdeal.τ).loc Cert.KernelIdeal.main_v14_7) = v6 c
          ∧ r.2.mem ((c.tc : Thread Cert.KernelIdeal.nD Cert.KernelIdeal.τ).loc Cert.KernelIdeal.main_v14_6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_v76) = v5 c
          ∧ r.2.mem ((c.tc : Thread Cert.ReferenceIdeal.nD Cert.ReferenceIdeal.τ).loc Cert.ReferenceIdeal.main_v115) = v6 c
          ∧ r.2.mem ((c.tc : Thread Cert.ReferenceIdeal.nD Cert.ReferenceIdeal.τ).loc Cert.ReferenceIdeal.main_v114) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x768 : Shape := ⟨3, ![4, 2048, 768]⟩
abbrev S4x768 : Shape := ⟨2, ![4, 768]⟩
abbrev S4x2048 : Shape := ⟨2, ![4, 2048]⟩
abbrev S16x768 : Shape := ⟨2, ![16, 768]⟩
abbrev S16x100 : Shape := ⟨2, ![16, 100]⟩
abbrev S768x1 : Shape := ⟨2, ![768, 1]⟩
abbrev S1 : Shape := ⟨1, ![1]⟩
abbrev S768x256 : Shape := ⟨2, ![768, 256]⟩
abbrev S256 : Shape := ⟨1, ![256]⟩
abbrev S256x1 : Shape := ⟨2, ![256, 1]⟩
abbrev S100x256 : Shape := ⟨2, ![100, 256]⟩
abbrev S4x1x768 : Shape := ⟨3, ![4, 1, 768]⟩
abbrev S1x1 : Shape := ⟨2, ![1, 1]⟩
abbrev S1x4 : Shape := ⟨2, ![1, 4]⟩
abbrev S4x2048x1 : Shape := ⟨3, ![4, 2048, 1]⟩
abbrev S4x16x2048 : Shape := ⟨3, ![4, 16, 2048]⟩
abbrev S4x16x768 : Shape := ⟨3, ![4, 16, 768]⟩
abbrev S1x2048x768 : Shape := ⟨3, ![1, 2048, 768]⟩
abbrev S1x1x768 : Shape := ⟨3, ![1, 1, 768]⟩
abbrev S1x2048x1 : Shape := ⟨3, ![1, 2048, 1]⟩
abbrev S1x16x2048 : Shape := ⟨3, ![1, 16, 2048]⟩
abbrev S1x16x768 : Shape := ⟨3, ![1, 16, 768]⟩
abbrev S1x768 : Shape := ⟨2, ![1, 768]⟩
abbrev S2048x768 : Shape := ⟨2, ![2048, 768]⟩
abbrev S768x4 : Shape := ⟨2, ![768, 4]⟩
abbrev S2048x4 : Shape := ⟨2, ![2048, 4]⟩
abbrev S2048x1 : Shape := ⟨2, ![2048, 1]⟩
abbrev S256x2048 : Shape := ⟨2, ![256, 2048]⟩
abbrev S256x16 : Shape := ⟨2, ![256, 16]⟩
abbrev S1x2048 : Shape := ⟨2, ![1, 2048]⟩
abbrev S16x2048 : Shape := ⟨2, ![16, 2048]⟩
abbrev S16 : Shape := ⟨1, ![16]⟩
abbrev S16x1 : Shape := ⟨2, ![16, 1]⟩

abbrev nBuf : Space → Nat
  | .hbm => 51
  | .vmem => 43
  | .smem => 0
  | _ => 0

abbrev bufTy : (tb : Table) → Fin (tcTables nBuf tb) → BufTy
  | .hbm, ⟨0, _⟩ => ⟨S4x2048x768, .f32⟩
  | .hbm, ⟨1, _⟩ => ⟨S4x768, .f32⟩
  | .hbm, ⟨2, _⟩ => ⟨S4x2048, .i32⟩
  | .hbm, ⟨3, _⟩ => ⟨S16x768, .f32⟩
  | .hbm, ⟨4, _⟩ => ⟨S16x100, .f32⟩
  | .hbm, ⟨5, _⟩ => ⟨S768x1, .f32⟩
  | .hbm, ⟨6, _⟩ => ⟨S1, .f32⟩
  | .hbm, ⟨7, _⟩ => ⟨S768x1, .f32⟩
  | .hbm, ⟨8, _⟩ => ⟨S1, .f32⟩
  | .hbm, ⟨9, _⟩ => ⟨S768x1, .f32⟩
  | .hbm, ⟨10, _⟩ => ⟨S1, .f32⟩
  | .hbm, ⟨11, _⟩ => ⟨S768x1, .f32⟩
  | .hbm, ⟨12, _⟩ => ⟨S1, .f32⟩
  | .hbm, ⟨13, _⟩ => ⟨S768x256, .f32⟩
  | .hbm, ⟨14, _⟩ => ⟨S256, .f32⟩
  | .hbm, ⟨15, _⟩ => ⟨S768x256, .f32⟩
  | .hbm, ⟨16, _⟩ => ⟨S256, .f32⟩
  | .hbm, ⟨17, _⟩ => ⟨S768x256, .f32⟩
  | .hbm, ⟨18, _⟩ => ⟨S256, .f32⟩
  | .hbm, ⟨19, _⟩ => ⟨S256x1, .f32⟩
  | .hbm, ⟨20, _⟩ => ⟨S1, .f32⟩
  | .hbm, ⟨21, _⟩ => ⟨S100x256, .f32⟩
  | .hbm, ⟨22, _⟩ => ⟨S256, .f32⟩
  | .hbm, ⟨23, _⟩ => ⟨S768x256, .f32⟩
  | .hbm, ⟨24, _⟩ => ⟨S256, .f32⟩
  | .hbm, ⟨25, _⟩ => ⟨S768x256, .f32⟩
  | .hbm, ⟨26, _⟩ => ⟨S256, .f32⟩
  | .hbm, ⟨27, _⟩ => ⟨S256x1, .f32⟩
  | .hbm, ⟨28, _⟩ => ⟨S1, .f32⟩
  | .hbm, ⟨29, _⟩ => ⟨S4x1x768, .f32⟩
  | .hbm, ⟨30, _⟩ => ⟨S1x1, .f32⟩
  | .hbm, ⟨31, _⟩ => ⟨S1x1, .f32⟩
  | .hbm, ⟨32, _⟩ => ⟨S1x1, .f32⟩
  | .hbm, ⟨33, _⟩ => ⟨S1x1, .f32⟩
  | .hbm, ⟨34, _⟩ => ⟨S1x4, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S1x1, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S1x1, .f32⟩
  | .hbm, ⟨43, _⟩ => ⟨S4x2048x1, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x16x2048, .f32⟩
  | .hbm, ⟨48, _⟩ => ⟨S4x16x768, .f32⟩
  | .hbm, ⟨49, _⟩ => ⟨S4x16x2048, .f32⟩
  | .hbm, ⟨50, _⟩ => ⟨S4x16x768, .f32⟩
  | .local _ .vmem, ⟨0, _⟩ => ⟨S1x2048x768, .f32⟩
  | .local _ .vmem, ⟨1, _⟩ => ⟨S1x2048x768, .f32⟩
  | .local _ .vmem, ⟨2, _⟩ => ⟨S1x1x768, .f32⟩
  | .local _ .vmem, ⟨3, _⟩ => ⟨S1x1x768, .f32⟩
  | .local _ .vmem, ⟨4, _⟩ => ⟨S768x1, .f32⟩
  | .local _ .vmem, ⟨5, _⟩ => ⟨S768x1, .f32⟩
  | .local _ .vmem, ⟨6, _⟩ => ⟨S768x1, .f32⟩
  | .local _ .vmem, ⟨7, _⟩ => ⟨S768x1, .f32⟩
  | .local _ .vmem, ⟨8, _⟩ => ⟨S1x4, .f32⟩
  | .local _ .vmem, ⟨9, _⟩ => ⟨S16x768, .f32⟩
  | .local _ .vmem, ⟨10, _⟩ => ⟨S768x256, .f32⟩
  | .local _ .vmem, ⟨11, _⟩ => ⟨S256x1, .f32⟩
  | .local _ .vmem, ⟨12, _⟩ => ⟨S768x256, .f32⟩
  | .local _ .vmem, ⟨13, _⟩ => ⟨S256x1, .f32⟩
  | .local _ .vmem, ⟨14, _⟩ => ⟨S768x256, .f32⟩
  | .local _ .vmem, ⟨15, _⟩ => ⟨S256x1, .f32⟩
  | .local _ .vmem, ⟨16, _⟩ => ⟨S256x1, .f32⟩
  | .local _ .vmem, ⟨17, _⟩ => ⟨S1x1, .f32⟩
  | .local _ .vmem, ⟨18, _⟩ => ⟨S16x100, .f32⟩
  | .local _ .vmem, ⟨19, _⟩ => ⟨S100x256, .f32⟩
  | .local _ .vmem, ⟨20, _⟩ => ⟨S256x1, .f32⟩
  | .local _ .vmem, ⟨21, _⟩ => ⟨S768x256, .f32⟩
  | .local _ .vmem, ⟨22, _⟩ => ⟨S256x1, .f32⟩
  | .local _ .vmem, ⟨23, _⟩ => ⟨S768x256, .f32⟩
  | .local _ .vmem, ⟨24, _⟩ => ⟨S256x1, .f32⟩
  | .local _ .vmem, ⟨25, _⟩ => ⟨S256x1, .f32⟩
  | .local _ .vmem, ⟨26, _⟩ => ⟨S1x1, .f32⟩
  | .local _ .vmem, ⟨27, _⟩ => ⟨S1x2048x1, .f32⟩
  | .local _ .vmem, ⟨28, _⟩ => ⟨S1x2048x1, .f32⟩
  | .local _ .vmem, ⟨29, _⟩ => ⟨S1x2048x1, .f32⟩
  | .local _ .vmem, ⟨30, _⟩ => ⟨S1x2048x1, .f32⟩
  | .local _ .vmem, ⟨31, _⟩ => ⟨S1x2048x1, .f32⟩
  | .local _ .vmem, ⟨32, _⟩ => ⟨S1x2048x1, .f32⟩
  | .local _ .vmem, ⟨33, _⟩ => ⟨S1x2048x1, .f32⟩
  | .local _ .vmem, ⟨34, _⟩ => ⟨S1x2048x1, .f32⟩
  | .local _ .vmem, ⟨35, _⟩ => ⟨S1x16x2048, .f32⟩
  | .local _ .vmem, ⟨36, _⟩ => ⟨S1x16x2048, .f32⟩
  | .local _ .vmem, ⟨37, _⟩ => ⟨S1x16x768, .f32⟩
  | .local _ .vmem, ⟨38, _⟩ => ⟨S1x16x768, .f32⟩
  | .local _ .vmem, ⟨39, _⟩ => ⟨S1x16x2048, .f32⟩
  | .local _ .vmem, ⟨40, _⟩ => ⟨S1x16x2048, .f32⟩
  | .local _ .vmem, ⟨41, _⟩ => ⟨S1x16x768, .f32⟩
  | .local _ .vmem, ⟨42, _⟩ => ⟨S1x16x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14_0 : Ref sig .tc := ⟨.hbm, 43, rfl⟩
abbrev main_v14_1 : Ref sig .tc := ⟨.hbm, 44, rfl⟩
abbrev main_v14_2 : Ref sig .tc := ⟨.hbm, 45, rfl⟩
abbrev main_v14_3 : Ref sig .tc := ⟨.hbm, 46, rfl⟩
abbrev main_v14_4 : Ref sig .tc := ⟨.hbm, 47, rfl⟩
abbrev main_v14_5 : Ref sig .tc := ⟨.hbm, 48, rfl⟩
abbrev main_v14_6 : Ref sig .tc := ⟨.hbm, 49, rfl⟩
abbrev main_v14_7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg25_1 : Ref sig .tc := ⟨.vmem, 28, rfl⟩
abbrev cc0_stg26_0 : Ref sig .tc := ⟨.vmem, 29, rfl⟩
abbrev cc0_stg26_1 : Ref sig .tc := ⟨.vmem, 30, rfl⟩
abbrev cc0_stg27_0 : Ref sig .tc := ⟨.vmem, 31, rfl⟩
abbrev cc0_stg27_1 : Ref sig .tc := ⟨.vmem, 32, rfl⟩
abbrev cc0_stg28_0 : Ref sig .tc := ⟨.vmem, 33, rfl⟩
abbrev cc0_stg28_1 : Ref sig .tc := ⟨.vmem, 34, rfl⟩
abbrev cc0_stg29_0 : Ref sig .tc := ⟨.vmem, 35, rfl⟩
abbrev cc0_stg29_1 : Ref sig .tc := ⟨.vmem, 36, rfl⟩
abbrev cc0_stg30_0 : Ref sig .tc := ⟨.vmem, 37, rfl⟩
abbrev cc0_stg30_1 : Ref sig .tc := ⟨.vmem, 38, rfl⟩
abbrev cc0_stg31_0 : Ref sig .tc := ⟨.vmem, 39, rfl⟩
abbrev cc0_stg31_1 : Ref sig .tc := ⟨.vmem, 40, rfl⟩
abbrev cc0_stg32_0 : Ref sig .tc := ⟨.vmem, 41, rfl⟩
abbrev cc0_stg32_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem25_1 : DmaSem sig := 28
abbrev cc0_sem26_0 : DmaSem sig := 29
abbrev cc0_sem26_1 : DmaSem sig := 30
abbrev cc0_sem27_0 : DmaSem sig := 31
abbrev cc0_sem27_1 : DmaSem sig := 32
abbrev cc0_sem28_0 : DmaSem sig := 33
abbrev cc0_sem28_1 : DmaSem sig := 34
abbrev cc0_sem29_0 : DmaSem sig := 35
abbrev cc0_sem29_1 : DmaSem sig := 36
abbrev cc0_sem30_0 : DmaSem sig := 37
abbrev cc0_sem30_1 : DmaSem sig := 38
abbrev cc0_sem31_0 : DmaSem sig := 39
abbrev cc0_sem31_1 : DmaSem sig := 40
abbrev cc0_sem32_0 : DmaSem sig := 41
abbrev cc0_sem32_1 : DmaSem sig := 42

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x100 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S100x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S768x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S768x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x2048x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x2048x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x2048x1 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x2048x1 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x16x2048 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x16x768 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x16x2048 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x16x768 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== ReferenceIdeal.lean ====
abbrev S4x2048x768 : Shape := ⟨3, ![4, 2048, 768]⟩
abbrev S4x768 : Shape := ⟨2, ![4, 768]⟩
abbrev S4x2048 : Shape := ⟨2, ![4, 2048]⟩
abbrev S16x768 : Shape := ⟨2, ![16, 768]⟩
abbrev S16x100 : Shape := ⟨2, ![16, 100]⟩
abbrev S768x1 : Shape := ⟨2, ![768, 1]⟩
abbrev S1 : Shape := ⟨1, ![1]⟩
abbrev S768x256 : Shape := ⟨2, ![768, 256]⟩
abbrev S256 : Shape := ⟨1, ![256]⟩
abbrev S256x1 : Shape := ⟨2, ![256, 1]⟩
abbrev S100x256 : Shape := ⟨2, ![100, 256]⟩
abbrev S4x2048x1 : Shape := ⟨3, ![4, 2048, 1]⟩
abbrev S1x1x1 : Shape := ⟨3, ![1, 1, 1]⟩
abbrev S_ : Shape := ⟨0, ![]⟩
abbrev S4x2048x256 : Shape := ⟨3, ![4, 2048, 256]⟩
abbrev S1x1x256 : Shape := ⟨3, ![1, 1, 256]⟩
abbrev S16x256 : Shape := ⟨2, ![16, 256]⟩
abbrev S1x256 : Shape := ⟨2, ![1, 256]⟩
abbrev S4x256 : Shape := ⟨2, ![4, 256]⟩
abbrev S4x1x2048x256 : Shape := ⟨4, ![4, 1, 2048, 256]⟩
abbrev S1x16x1x256 : Shape := ⟨4, ![1, 16, 1, 256]⟩
abbrev S4x16x2048x256 : Shape := ⟨4, ![4, 16, 2048, 256]⟩
abbrev S4x1x1x256 : Shape := ⟨4, ![4, 1, 1, 256]⟩
abbrev S4x16x2048x1 : Shape := ⟨4, ![4, 16, 2048, 1]⟩
abbrev S1x1x1x1 : Shape := ⟨4, ![1, 1, 1, 1]⟩
abbrev S4x16x2048 : Shape := ⟨3, ![4, 16, 2048]⟩
abbrev S4x16 : Shape := ⟨2, ![4, 16]⟩
abbrev S4x16x1 : Shape := ⟨3, ![4, 16, 1]⟩
abbrev S4x16x768 : Shape := ⟨3, ![4, 16, 768]⟩

abbrev nBuf : Space → Nat
  | .hbm => 159
  | .vmem => 0
  | .smem => 0
  | _ => 0

abbrev hbmTy0_0 (i : Nat) : BufTy := match i % 128 with
  | 0 => ⟨S4x2048x768, .f32⟩
  | 1 => ⟨S4x768, .f32⟩
  | 2 => ⟨S4x2048, .i32⟩
  | 3 => ⟨S16x768, .f32⟩
  | 4 => ⟨S16x100, .f32⟩
  | 5 => ⟨S768x1, .f32⟩
  | 6 => ⟨S1, .f32⟩
  | 7 => ⟨S768x1, .f32⟩
  | 8 => ⟨S1, .f32⟩
  | 9 => ⟨S768x1, .f32⟩
  | 10 => ⟨S1, .f32⟩
  | 11 => ⟨S768x1, .f32⟩
  | 12 => ⟨S1, .f32⟩
  | 13 => ⟨S768x256, .f32⟩
  | 14 => ⟨S256, .f32⟩
  | 15 => ⟨S768x256, .f32⟩
  | 16 => ⟨S256, .f32⟩
  | 17 => ⟨S768x256, .f32⟩
  | 18 => ⟨S256, .f32⟩
  | 19 => ⟨S256x1, .f32⟩
  | 20 => ⟨S1, .f32⟩
  | 21 => ⟨S100x256, .f32⟩
  | 22 => ⟨S256, .f32⟩
  | 23 => ⟨S768x256, .f32⟩
  | 24 => ⟨S256, .f32⟩
  | 25 => ⟨S768x256, .f32⟩
  | 26 => ⟨S256, .f32⟩
  | 27 => ⟨S256x1, .f32⟩
  | 28 => ⟨S1, .f32⟩
  | 29 => ⟨S4x2048x1, .f32⟩
  | 30 => ⟨S1x1x1, .f32⟩
  | 31 => ⟨S4x2048x1, .f32⟩
  | 32 => ⟨S4x2048x1, .f32⟩
  | 33 => ⟨S4x2048x1, .f32⟩
  | 34 => ⟨S4x2048x1, .f32⟩
  | 35 => ⟨S_, .f32⟩
  | 36 => ⟨S4x2048x1, .f32⟩
  | 37 => ⟨S4x2048x1, .f32⟩
  | 38 => ⟨S_, .f32⟩
  | 39 => ⟨S4x2048x1, .f32⟩
  | 40 => ⟨S4x2048x1, .f32⟩
  | 41 => ⟨S4x2048x1, .f32⟩
  | 42 => ⟨S1x1x1, .f32⟩
  | 43 => ⟨S4x2048x1, .f32⟩
  | 44 => ⟨S4x2048x1, .f32⟩
  | 45 => ⟨S4x2048x1, .f32⟩
  | 46 => ⟨S4x2048x1, .f32⟩
  | 47 => ⟨S_, .f32⟩
  | 48 => ⟨S4x2048x1, .f32⟩
  | 49 => ⟨S4x2048x1, .f32⟩
  | 50 => ⟨S_, .f32⟩
  | 51 => ⟨S4x2048x1, .f32⟩
  | 52 => ⟨S4x2048x1, .f32⟩
  | 53 => ⟨S4x2048x1, .f32⟩
  | 54 => ⟨S1x1x1, .f32⟩
  | 55 => ⟨S4x2048x1, .f32⟩
  | 56 => ⟨S4x2048x1, .f32⟩
  | 57 => ⟨S4x2048x1, .f32⟩
  | 58 => ⟨S4x2048x1, .f32⟩
  | 59 => ⟨S_, .f32⟩
  | 60 => ⟨S4x2048x1, .f32⟩
  | 61 => ⟨S4x2048x1, .f32⟩
  | 62 => ⟨S_, .f32⟩
  | 63 => ⟨S4x2048x1, .f32⟩
  | 64 => ⟨S4x2048x1, .f32⟩
  | 65 => ⟨S4x2048x1, .f32⟩
  | 66 => ⟨S1x1x1, .f32⟩
  | 67 => ⟨S4x2048x1, .f32⟩
  | 68 => ⟨S4x2048x1, .f32⟩
  | 69 => ⟨S4x2048x1, .f32⟩
  | 70 => ⟨S4x2048x1, .f32⟩
  | 71 => ⟨S_, .f32⟩
  | 72 => ⟨S4x2048x1, .f32⟩
  | 73 => ⟨S4x2048x1, .f32⟩
  | 74 => ⟨S_, .f32⟩
  | 75 => ⟨S4x2048x1, .f32⟩
  | 76 => ⟨S4x2048x1, .f32⟩
  | 77 => ⟨S4x2048x256, .f32⟩
  | 78 => ⟨S1x1x256, .f32⟩
  | 79 => ⟨S4x2048x256, .f32⟩
  | 80 => ⟨S4x2048x256, .f32⟩
  | 81 => ⟨S16x256, .f32⟩
  | 82 => ⟨S1x256, .f32⟩
  | 83 => ⟨S16x256, .f32⟩
  | 84 => ⟨S16x256, .f32⟩
  | 85 => ⟨S4x256, .f32⟩
  | 86 => ⟨S1x256, .f32⟩
  | 87 => ⟨S4x256, .f32⟩
  | 88 => ⟨S4x256, .f32⟩
  | 89 => ⟨S4x1x2048x256, .f32⟩
  | 90 => ⟨S1x16x1x256, .f32⟩
  | 91 => ⟨S4x16x2048x256, .f32⟩
  | 92 => ⟨S4x16x2048x256, .f32⟩
  | 93 => ⟨S4x16x2048x256, .f32⟩
  | 94 => ⟨S4x1x1x256, .f32⟩
  | 95 => ⟨S4x16x2048x256, .f32⟩
  | 96 => ⟨S4x16x2048x256, .f32⟩
  | 97 => ⟨S4x16x2048x256, .f32⟩
  | 98 => ⟨S4x16x2048x1, .f32⟩
  | 99 => ⟨S1x1x1x1, .f32⟩
  | 100 => ⟨S4x16x2048x1, .f32⟩
  | 101 => ⟨S4x16x2048x1, .f32⟩
  | 102 => ⟨S4x16x2048, .f32⟩
  | 103 => ⟨S_, .f32⟩
  | 104 => ⟨S4x16, .f32⟩
  | 105 => ⟨S_, .f32⟩
  | 106 => ⟨S4x16, .f32⟩
  | 107 => ⟨S4x16, .f32⟩
  | 108 => ⟨S4x16x1, .f32⟩
  | 109 => ⟨S4x16x2048, .f32⟩
  | 110 => ⟨S4x16x2048, .f32⟩
  | 111 => ⟨S4x16x2048, .f32⟩
  | 112 => ⟨S_, .f32⟩
  | 113 => ⟨S4x16, .f32⟩
  | 114 => ⟨S4x16x1, .f32⟩
  | 115 => ⟨S4x16x2048, .f32⟩
  | 116 => ⟨S4x16x2048, .f32⟩
  | 117 => ⟨S4x16x768, .f32⟩
  | 118 => ⟨S4x2048x256, .f32⟩
  | 119 => ⟨S1x1x256, .f32⟩
  | 120 => ⟨S4x2048x256, .f32⟩
  | 121 => ⟨S4x2048x256, .f32⟩
  | 122 => ⟨S16x256, .f32⟩
  | 123 => ⟨S1x256, .f32⟩
  | 124 => ⟨S16x256, .f32⟩
  | 125 => ⟨S16x256, .f32⟩
  | 126 => ⟨S4x256, .f32⟩
  | 127 => ⟨S1x256, .f32⟩
  | _ => ⟨S4x2048x768, .f32⟩

abbrev hbmTy0_1 (i : Nat) : BufTy := match i % 128 with
  | 0 => ⟨S4x256, .f32⟩
  | 1 => ⟨S4x256, .f32⟩
  | 2 => ⟨S4x1x2048x256, .f32⟩
  | 3 => ⟨S1x16x1x256, .f32⟩
  | 4 => ⟨S4x16x2048x256, .f32⟩
  | 5 => ⟨S4x16x2048x256, .f32⟩
  | 6 => ⟨S4x16x2048x256, .f32⟩
  | 7 => ⟨S4x1x1x256, .f32⟩
  | 8 => ⟨S4x16x2048x256, .f32⟩
  | 9 => ⟨S4x16x2048x256, .f32⟩
  | 10 => ⟨S4x16x2048x256, .f32⟩
  | 11 => ⟨S4x16x2048x1, .f32⟩
  | 12 => ⟨S1x1x1x1, .f32⟩
  | 13 => ⟨S4x16x2048x1, .f32⟩
  | 14 => ⟨S4x16x2048x1, .f32⟩
  | 15 => ⟨S4x16x2048, .f32⟩
  | 16 => ⟨S_, .f32⟩
  | 17 => ⟨S4x16, .f32⟩
  | 18 => ⟨S_, .f32⟩
  | 19 => ⟨S4x16, .f32⟩
  | 20 => ⟨S4x16, .f32⟩
  | 21 => ⟨S4x16x1, .f32⟩
  | 22 => ⟨S4x16x2048, .f32⟩
  | 23 => ⟨S4x16x2048, .f32⟩
  | 24 => ⟨S4x16x2048, .f32⟩
  | 25 => ⟨S_, .f32⟩
  | 26 => ⟨S4x16, .f32⟩
  | 27 => ⟨S4x16x1, .f32⟩
  | 28 => ⟨S4x16x2048, .f32⟩
  | 29 => ⟨S4x16x2048, .f32⟩
  | 30 => ⟨S4x16x768, .f32⟩
  | _ => ⟨S4x2048x768, .f32⟩

abbrev hbmTy (i : Nat) : BufTy := match i / 128 with
  | 0 => hbmTy0_0 i
  | 1 => hbmTy0_1 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_cst : Ref sig .tc := ⟨.hbm, 35, rfl⟩
abbrev main_v6 : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_3 : Ref sig .tc := ⟨.hbm, 59, rfl⟩
abbrev main_v26 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_5 : Ref sig .tc := ⟨.hbm, 71, rfl⟩
abbrev main_v36 : Ref sig .tc := ⟨.hbm, 72, rfl⟩
abbrev main_v37 : Ref sig .tc := ⟨.hbm, 73, rfl⟩
abbrev main_cst_6 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_7 : Ref sig .tc := ⟨.hbm, 103, rfl⟩
abbrev main_v66 : Ref sig .tc := ⟨.hbm, 104, rfl⟩
abbrev main_cst_8 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_9 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_10 : Ref sig .tc := ⟨.hbm, 144, rfl⟩
abbrev main_v104 : Ref sig .tc := ⟨.hbm, 145, rfl⟩
abbrev main_cst_11 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_12 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩

abbrev nD : Nat := 1
abbrev τ : Topo := Topo.v7x

variable {F : FTy → Type} [FloatOps F]
-- ==== Proof.KernelIdeal.Body.lean ====
/-
  What one grid point of `Cert.KernelIdeal` leaves in its eight output blocks, and the frame: every weakly fair run
  terminates, the arguments keep their contents, and each output array ends at what the pipeline writes block by block.

  The grid has four points, one per batch. A point reads 25 input blocks whole, computes, and fills 8 output blocks
  whole; it keeps nothing for the next point. The 25 blocks travel together as one record (`Ins`), so that a statement
  names the record and not its fields one after another.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.SparseCore.ProtocolKit
public import Idealize.ShloMosaic.Lib.Claim
public import Idealize.ShloMosaic.Lib.Ring
public import Idealize.ShloMosaic.Lib.Tactic
public import Idealize.ShloMosaic.Lib.WordCmp

@[expose] public section

-- blocks of 2048 × 768 entries: the check that a store covers its block recurses along the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The input blocks of one grid point -/

/-- The 25 input blocks a grid point reads. -/
structure Ins (F : FTy → Type) [FloatOps F] where
  /-- the hidden states of one batch -/
  x0 : Vec F S1x2048x768 .f32
  /-- the mean vector of one batch -/
  x1 : Vec F S1x1x768 .f32
  /-- head 1: weights -/
  x2 : Vec F S768x1 .f32
  /-- head 2: weights -/
  x3 : Vec F S768x1 .f32
  /-- head 3: weights -/
  x4 : Vec F S768x1 .f32
  /-- head 4: weights -/
  x5 : Vec F S768x1 .f32
  /-- the four heads' biases, side by side -/
  x6 : Vec F S1x4 .f32
  /-- semantic query rows -/
  x7 : Vec F S16x768 .f32
  /-- semantic: query weights -/
  x8 : Vec F S768x256 .f32
  /-- semantic: query bias -/
  x9 : Vec F S256x1 .f32
  /-- semantic: key weights -/
  x10 : Vec F S768x256 .f32
  /-- semantic: key bias -/
  x11 : Vec F S256x1 .f32
  /-- semantic: global weights -/
  x12 : Vec F S768x256 .f32
  /-- semantic: global bias -/
  x13 : Vec F S256x1 .f32
  /-- semantic: scoring vector -/
  x14 : Vec F S256x1 .f32
  /-- semantic: scoring bias -/
  x15 : Vec F S1x1 .f32
  /-- transition query rows -/
  x16 : Vec F S16x100 .f32
  /-- transition: query weights -/
  x17 : Vec F S100x256 .f32
  /-- transition: query bias -/
  x18 : Vec F S256x1 .f32
  /-- transition: key weights -/
  x19 : Vec F S768x256 .f32
  /-- transition: key bias -/
  x20 : Vec F S256x1 .f32
  /-- transition: global weights -/
  x21 : Vec F S768x256 .f32
  /-- transition: global bias -/
  x22 : Vec F S256x1 .f32
  /-- transition: scoring vector -/
  x23 : Vec F S256x1 .f32
  /-- transition: scoring bias -/
  x24 : Vec F S1x1 .f32

/-! ## What the body computes

The vectors the body names more than once, as functions of the input blocks, in the order the body binds them. -/

/-- The body's value number 1. -/
def val51 (X : Ins F) : FVec F S1x768 .f32 :=
  k0_pay1 X.x1
/-- The body's value number 2. -/
def val52 (X : Ins F) : FVec F S2048x768 .bf16 :=
  k0_pay2 X.x0
/-- The body's value number 3. -/
def val53 (X : Ins F) : FVec F S256x2048 .bf16 :=
  k0_pay9 (val51 X) (val52 X) X.x12 X.x10 X.x11 X.x13
/-- The body's value number 4. -/
def val54 (X : Ins F) : FVec F S256x16 .bf16 :=
  k0_pay10 X.x8 X.x7 X.x9
/-- The body's value number 5. -/
def val55 (X : Ins F) : FVec F S256x1 .bf16 :=
  k0_pay11 X.x14
/-- The body's value number 6. -/
def val56 (X : Ins F) : FVec F S1x2048 .f32 :=
  k0_pay12 (val51 X) (val52 X) X.x12 X.x10 X.x11 X.x13 X.x8 X.x7 X.x9 X.x14
/-- The body's value number 7. -/
def val57 (X : Ins F) : FVec F S1x2048 .f32 :=
  k0_pay14 (val55 X) (k0_pay13 (val51 X) (val52 X) X.x12 X.x10 X.x11 X.x13 X.x8 X.x7 X.x9)
/-- The body's value number 8. -/
def val58 (X : Ins F) : FVec F S1x2048 .f32 :=
  k0_pay15 (val53 X) (val54 X) (val55 X)
/-- The body's value number 9. -/
def val59 (X : Ins F) : FVec F S1x2048 .f32 :=
  k0_pay16 (val53 X) (val54 X) (val55 X)
/-- The body's value number 10. -/
def val60 (X : Ins F) : FVec F S1x2048 .f32 :=
  k0_pay17 (val53 X) (val54 X) (val55 X)
/-- The body's value number 11. -/
def val61 (X : Ins F) : FVec F S1x2048 .f32 :=
  k0_pay18 (val53 X) (val54 X) (val55 X)
/-- The body's value number 12. -/
def val62 (X : Ins F) : FVec F S1x2048 .f32 :=
  k0_pay19 (val53 X) (val54 X) (val55 X)
/-- The body's value number 13. -/
def val63 (X : Ins F) : FVec F S1x2048 .f32 :=
  k0_pay20 (val53 X) (val54 X) (val55 X)
/-- The body's value number 14. -/
def val64 (X : Ins F) : FVec F S1x2048 .f32 :=
  k0_pay21 (val53 X) (val54 X) (val55 X)
/-- The body's value number 15. -/
def val65 (X : Ins F) : FVec F S1x2048 .f32 :=
  k0_pay22 (val53 X) (val54 X) (val55 X)
/-- The body's value number 16. -/
def val66 (X : Ins F) : FVec F S1x2048 .f32 :=
  k0_pay23 (val53 X) (val54 X) (val55 X)
/-- The body's value number 17. -/
def val67 (X : Ins F) : FVec F S256x2048 .bf16 :=
  k0_pay24 (val53 X) (val54 X)
/-- The body's value number 18. -/
def val68 (X : Ins F) : FVec F S256x2048 .bf16 :=
  k0_pay28 (val51 X) (val52 X) X.x21 X.x19 X.x20 X.x22
/-- The body's value number 19. -/
def val69 (X : Ins F) : FVec F S256x16 .bf16 :=
  k0_pay29 X.x17 X.x16 X.x18
/-- The body's value number 20. -/
def val70 (X : Ins F) : FVec F S256x1 .bf16 :=
  k0_pay30 X.x23
/-- The body's value number 21. -/
def val71 (X : Ins F) : FVec F S16x2048 .f32 :=
  k0_pay48 (concatenate S16x2048 0 [⟨S1x2048, (k0_pay31 (val51 X) (val52 X) X.x21 X.x19 X.x20 X.x22 X.x17 X.x16 X.x18 X.x23)⟩, ⟨S1x2048, (k0_pay32 (val51 X) (val52 X) X.x21 X.x19 X.x20 X.x22 X.x17 X.x16 X.x18 X.x23)⟩, ⟨S1x2048, (k0_pay34 (val70 X) (k0_pay33 (val51 X) (val52 X) X.x21 X.x19 X.x20 X.x22 X.x17 X.x16 X.x18))⟩, ⟨S1x2048, (k0_pay35 (val68 X) (val69 X) (val70 X))⟩, ⟨S1x2048, (k0_pay36 (val68 X) (val69 X) (val70 X))⟩, ⟨S1x2048, (k0_pay37 (val68 X) (val69 X) (val70 X))⟩, ⟨S1x2048, (k0_pay38 (val68 X) (val69 X) (val70 X))⟩, ⟨S1x2048, (k0_pay39 (val68 X) (val69 X) (val70 X))⟩, ⟨S1x2048, (k0_pay40 (val68 X) (val69 X) (val70 X))⟩, ⟨S1x2048, (k0_pay41 (val68 X) (val69 X) (val70 X))⟩, ⟨S1x2048, (k0_pay42 (val68 X) (val69 X) (val70 X))⟩, ⟨S1x2048, (k0_pay43 (val68 X) (val69 X) (val70 X))⟩, ⟨S1x2048, (matmul dot_S256x1_S256x2048_S1x2048_0_0_1_1_n_n none (val70 X) (k0_pay44 (val68 X) (val69 X)) (constant S1x2048 .f32 0x00000000#32))⟩, ⟨S1x2048, (k0_pay45 (val68 X) (val69 X) (val70 X))⟩, ⟨S1x2048, (k0_pay46 (val68 X) (val69 X) (val70 X))⟩, ⟨S1x2048, (k0_pay47 (val68 X) (val69 X) (val70 X))⟩] concatenates_S1x2048_S1x2048_S1x2048_S1x2048_S1x2048_S1x2048_S1x2048_S1x2048_S1x2048_S1x2048_S1x2048_S1x2048_S1x2048_S1x2048_S1x2048_S1x2048_S16x2048_d0) X.x24

/-! ## What the body stores -/

/-- The vector the body stores into the block of output window 25. -/
def pay25 (X : Ins F) : Vec F S1x2048x1 .f32 :=
  k0_pay4 X.x0 X.x2 X.x3 X.x4 X.x5 X.x6
/-- The vector the body stores into the block of output window 26. -/
def pay26 (X : Ins F) : Vec F S1x2048x1 .f32 :=
  k0_pay5 X.x0 X.x2 X.x3 X.x4 X.x5 X.x6
/-- The vector the body stores into the block of output window 27. -/
def pay27 (X : Ins F) : Vec F S1x2048x1 .f32 :=
  k0_pay6 X.x0 X.x2 X.x3 X.x4 X.x5 X.x6
/-- The vector the body stores into the block of output window 28. -/
def pay28 (X : Ins F) : Vec F S1x2048x1 .f32 :=
  k0_pay8 (k0_pay7 X.x0 X.x2 X.x3 X.x4 X.x5 X.x6)
/-- The vector the body stores into the block of output window 29. -/
def pay29 (X : Ins F) : Vec F S1x16x2048 .f32 :=
  k0_pay26 (val53 X) (val54 X) (val55 X) (val56 X) (val57 X) (val58 X) (val59 X) (val60 X) (val61 X) (val62 X) (val63 X) (val64 X) (val65 X) (val66 X) (val67 X) X.x15
/-- The vector the body stores into the block of output window 30. -/
def pay30 (X : Ins F) : Vec F S1x16x768 .f32 :=
  k0_pay27 (val52 X) (val53 X) (val54 X) (val55 X) (val56 X) (val57 X) (val58 X) (val59 X) (val60 X) (val61 X) (val62 X) (val63 X) (val64 X) (val65 X) (val66 X) (val67 X) X.x15
/-- The vector the body stores into the block of output window 31. -/
def pay31 (X : Ins F) : Vec F S1x16x2048 .f32 :=
  k0_pay49 (val71 X)
/-- The vector the body stores into the block of output window 32. -/
def pay32 (X : Ins F) : Vec F S1x16x768 .f32 :=
  k0_pay50 (val52 X) (val71 X)

/-! ## The accesses: every load and every store is of a whole block -/

/-- The whole of a block of shape `S1x2048x768`. -/
abbrev all1x2048x768 : Rect S1x2048x768 := Rect.unit (s := S1x2048x768) ![0, 0, 0] S1x2048x768.size inb_S1x2048x768_S1x2048x768_0_0_0
/-- The whole of a block of shape `S1x1x768`. -/
abbrev all1x1x768 : Rect S1x1x768 := Rect.unit (s := S1x1x768) ![0, 0, 0] S1x1x768.size inb_S1x1x768_S1x1x768_0_0_0
/-- The whole of a block of shape `S768x1`. -/
abbrev all768x1 : Rect S768x1 := Rect.unit (s := S768x1) ![0, 0] S768x1.size inb_S768x1_S768x1_0_0
/-- The whole of a block of shape `S1x4`. -/
abbrev all1x4 : Rect S1x4 := Rect.unit (s := S1x4) ![0, 0] S1x4.size inb_S1x4_S1x4_0_0
/-- The whole of a block of shape `S16x768`. -/
abbrev all16x768 : Rect S16x768 := Rect.unit (s := S16x768) ![0, 0] S16x768.size inb_S16x768_S16x768_0_0
/-- The whole of a block of shape `S768x256`. -/
abbrev all768x256 : Rect S768x256 := Rect.unit (s := S768x256) ![0, 0] S768x256.size inb_S768x256_S768x256_0_0
/-- The whole of a block of shape `S256x1`. -/
abbrev all256x1 : Rect S256x1 := Rect.unit (s := S256x1) ![0, 0] S256x1.size inb_S256x1_S256x1_0_0
/-- The whole of a block of shape `S1x1`. -/
abbrev all1x1 : Rect S1x1 := Rect.unit (s := S1x1) ![0, 0] S1x1.size inb_S1x1_S1x1_0_0
/-- The whole of a block of shape `S16x100`. -/
abbrev all16x100 : Rect S16x100 := Rect.unit (s := S16x100) ![0, 0] S16x100.size inb_S16x100_S16x100_0_0
/-- The whole of a block of shape `S100x256`. -/
abbrev all100x256 : Rect S100x256 := Rect.unit (s := S100x256) ![0, 0] S100x256.size inb_S100x256_S100x256_0_0
/-- The whole of a block of shape `S1x2048x1`. -/
abbrev all1x2048x1 : Rect S1x2048x1 := Rect.unit (s := S1x2048x1) ![0, 0, 0] S1x2048x1.size inb_S1x2048x1_S1x2048x1_0_0_0
/-- The whole of a block of shape `S1x16x2048`. -/
abbrev all1x16x2048 : Rect S1x16x2048 := Rect.unit (s := S1x16x2048) ![0, 0, 0] S1x16x2048.size inb_S1x16x2048_S1x16x2048_0_0_0
/-- The whole of a block of shape `S1x16x768`. -/
abbrev all1x16x768 : Rect S1x16x768 := Rect.unit (s := S1x16x768) ![0, 0, 0] S1x16x768.size inb_S1x16x768_S1x16x768_0_0_0

/-- The 25 blocks as the body loads them, each through the rectangle that is the whole block. -/
def loads (X : Ins F) : Ins F where
  x0 := View.ld X.x0 all1x2048x768
  x1 := View.ld X.x1 all1x1x768
  x2 := View.ld X.x2 all768x1
  x3 := View.ld X.x3 all768x1
  x4 := View.ld X.x4 all768x1
  x5 := View.ld X.x5 all768x1
  x6 := View.ld X.x6 all1x4
  x7 := View.ld X.x7 all16x768
  x8 := View.ld X.x8 all768x256
  x9 := View.ld X.x9 all256x1
  x10 := View.ld X.x10 all768x256
  x11 := View.ld X.x11 all256x1
  x12 := View.ld X.x12 all768x256
  x13 := View.ld X.x13 all256x1
  x14 := View.ld X.x14 all256x1
  x15 := View.ld X.x15 all1x1
  x16 := View.ld X.x16 all16x100
  x17 := View.ld X.x17 all100x256
  x18 := View.ld X.x18 all256x1
  x19 := View.ld X.x19 all768x256
  x20 := View.ld X.x20 all256x1
  x21 := View.ld X.x21 all768x256
  x22 := View.ld X.x22 all256x1
  x23 := View.ld X.x23 all256x1
  x24 := View.ld X.x24 all1x1

private theorem zero2 : (![0, 0] : Fin 2 → Nat) = fun _ => 0 := by decide
private theorem zero3 : (![0, 0, 0] : Fin 3 → Nat) = fun _ => 0 := by decide

/-- Loading whole blocks changes nothing. -/
theorem loads_eq (X : Ins F) : loads X = X := by
  obtain ⟨x0, x1, x2, x3, x4, x5, x6, x7, x8, x9, x10, x11, x12, x13, x14, x15, x16, x17, x18, x19, x20, x21, x22, x23, x24⟩ := X
  simp only [loads, Ins.mk.injEq]
  exact ⟨View.ld_unit_zero (S := S1x2048x768) zero3 _ _, View.ld_unit_zero (S := S1x1x768) zero3 _ _, View.ld_unit_zero (S := S768x1) zero2 _ _, View.ld_unit_zero (S := S768x1) zero2 _ _, View.ld_unit_zero (S := S768x1) zero2 _ _, View.ld_unit_zero (S := S768x1) zero2 _ _, View.ld_unit_zero (S := S1x4) zero2 _ _, View.ld_unit_zero (S := S16x768) zero2 _ _, View.ld_unit_zero (S := S768x256) zero2 _ _, View.ld_unit_zero (S := S256x1) zero2 _ _, View.ld_unit_zero (S := S768x256) zero2 _ _, View.ld_unit_zero (S := S256x1) zero2 _ _, View.ld_unit_zero (S := S768x256) zero2 _ _, View.ld_unit_zero (S := S256x1) zero2 _ _, View.ld_unit_zero (S := S256x1) zero2 _ _, View.ld_unit_zero (S := S1x1) zero2 _ _, View.ld_unit_zero (S := S16x100) zero2 _ _, View.ld_unit_zero (S := S100x256) zero2 _ _, View.ld_unit_zero (S := S256x1) zero2 _ _, View.ld_unit_zero (S := S768x256) zero2 _ _, View.ld_unit_zero (S := S256x1) zero2 _ _, View.ld_unit_zero (S := S768x256) zero2 _ _, View.ld_unit_zero (S := S256x1) zero2 _ _, View.ld_unit_zero (S := S256x1) zero2 _ _, View.ld_unit_zero (S := S1x1) zero2 _ _⟩

/-- What the block of output window 25 holds after the body: the one store over it. -/
def out25 (X : Ins F) : Vec F S1x2048x1 .f32 := View.canon [⟨all1x2048x1, pay25 (loads X)⟩]
/-- … which is the stored vector. -/
theorem out25_eq (X : Ins F) : out25 X = pay25 X := by
  unfold out25; rw [loads_eq]; exact View.canon_unit_zero (S := S1x2048x1) zero3 _ _
/-- What the block of output window 26 holds after the body: the one store over it. -/
def out26 (X : Ins F) : Vec F S1x2048x1 .f32 := View.canon [⟨all1x2048x1, pay26 (loads X)⟩]
/-- … which is the stored vector. -/
theorem out26_eq (X : Ins F) : out26 X = pay26 X := by
  unfold out26; rw [loads_eq]; exact View.canon_unit_zero (S := S1x2048x1) zero3 _ _
/-- What the block of output window 27 holds after the body: the one store over it. -/
def out27 (X : Ins F) : Vec F S1x2048x1 .f32 := View.canon [⟨all1x2048x1, pay27 (loads X)⟩]
/-- … which is the stored vector. -/
theorem out27_eq (X : Ins F) : out27 X = pay27 X := by
  unfold out27; rw [loads_eq]; exact View.canon_unit_zero (S := S1x2048x1) zero3 _ _
/-- What the block of output window 28 holds after the body: the one store over it. -/
def out28 (X : Ins F) : Vec F S1x2048x1 .f32 := View.canon [⟨all1x2048x1, pay28 (loads X)⟩]
/-- … which is the stored vector. -/
theorem out28_eq (X : Ins F) : out28 X = pay28 X := by
  unfold out28; rw [loads_eq]; exact View.canon_unit_zero (S := S1x2048x1) zero3 _ _
/-- What the block of output window 29 holds after the body: the one store over it. -/
def out29 (X : Ins F) : Vec F S1x16x2048 .f32 := View.canon [⟨all1x16x2048, pay29 (loads X)⟩]
/-- … which is the stored vector. -/
theorem out29_eq (X : Ins F) : out29 X = pay29 X := by
  unfold out29; rw [loads_eq]; exact View.canon_unit_zero (S := S1x16x2048) zero3 _ _
/-- What the block of output window 30 holds after the body: the one store over it. -/
def out30 (X : Ins F) : Vec F S1x16x768 .f32 := View.canon [⟨all1x16x768, pay30 (loads X)⟩]
/-- … which is the stored vector. -/
theorem out30_eq (X : Ins F) : out30 X = pay30 X := by
  unfold out30; rw [loads_eq]; exact View.canon_unit_zero (S := S1x16x768) zero3 _ _
/-- What the block of output window 31 holds after the body: the one store over it. -/
def out31 (X : Ins F) : Vec F S1x16x2048 .f32 := View.canon [⟨all1x16x2048, pay31 (loads X)⟩]
/-- … which is the stored vector. -/
theorem out31_eq (X : Ins F) : out31 X = pay31 X := by
  unfold out31; rw [loads_eq]; exact View.canon_unit_zero (S := S1x16x2048) zero3 _ _
/-- What the block of output window 32 holds after the body: the one store over it. -/
def out32 (X : Ins F) : Vec F S1x16x768 .f32 := View.canon [⟨all1x16x768, pay32 (loads X)⟩]
/-- … which is the stored vector. -/
theorem out32_eq (X : Ins F) : out32 X = pay32 X := by
  unfold out32; rw [loads_eq]; exact View.canon_unit_zero (S := S1x16x768) zero3 _ _

/-! ## The body's triple -/

/-- A memref whose buffer holds `f` is held at what it reads of `f` (`owns` written out). -/
theorem held_in {c : Dev nD} {sp : Space} {s : Shape} {e : EltTy} (M : Memref sig .tc sp s e)
    (f : Buf (Elt F) (M.view.loc (c : Thread nD τ))) :
    (M.view.loc (c : Thread nD τ) ↦[M.view.set]{fullShare} f : sProp 𝕄)
      ⊢ iprop(∃ g : Buf (Elt F) (M.view.loc (c : Thread nD τ)), ⌜M.view.read (Elt F) g = M.view.read (Elt F) f⌝
        ∗ M.view.loc (c : Thread nD τ) ↦[M.view.set]{fullShare} g) := by
  iintro H; iexists f; isplitr
  · ipureintro; rfl
  iexact H

/-- What a memref reads after one store that tiles it: that store's canon. -/
theorem read_filled {sp : Space} {s : Shape} {e : EltTy} (M : Memref sig .tc sp s e) (f : M.view.ty.Contents (Elt F))
    (r : Rect s) (p : r.shape.Idx → Elt F e)
    (hc : View.Piece.tiled [(⟨r, p⟩ : View.Piece (Elt F) s e)] s.size = true) :
    M.view.read (Elt F) (M.view.writes (Elt F) f [⟨r, p⟩]) = View.canon [⟨r, p⟩] :=
  View.read_writes_eq_canon _ _ _ (View.cover_of_tiled _ s.size hc)

-- 33 memrefs and some 60 vector operations in one run
set_option maxHeartbeats 2000000 in
/-- The body, its input blocks at `X` and its output blocks at anything, ends with the input blocks as they were and
    each output block at `outW X`. -/
theorem sound_kernel (c : Dev nD) (E : Set ℕ) (i : grid0.Coords) (arg1 : Memref sig .tc .vmem S1x2048x768 .f32) (harg1 : arg1.IsWhole) (arg2 : Memref sig .tc .vmem S1x1x768 .f32) (harg2 : arg2.IsWhole) (arg3 : Memref sig .tc .vmem S768x1 .f32) (harg3 : arg3.IsWhole) (arg4 : Memref sig .tc .vmem S768x1 .f32) (harg4 : arg4.IsWhole) (arg5 : Memref sig .tc .vmem S768x1 .f32) (harg5 : arg5.IsWhole) (arg6 : Memref sig .tc .vmem S768x1 .f32) (harg6 : arg6.IsWhole) (arg7 : Memref sig .tc .vmem S1x4 .f32) (harg7 : arg7.IsWhole) (arg8 : Memref sig .tc .vmem S16x768 .f32) (harg8 : arg8.IsWhole) (arg9 : Memref sig .tc .vmem S768x256 .f32) (harg9 : arg9.IsWhole) (arg10 : Memref sig .tc .vmem S256x1 .f32) (harg10 : arg10.IsWhole) (arg11 : Memref sig .tc .vmem S768x256 .f32) (harg11 : arg11.IsWhole) (arg12 : Memref sig .tc .vmem S256x1 .f32) (harg12 : arg12.IsWhole) (arg13 : Memref sig .tc .vmem S768x256 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S16x100 .f32) (harg17 : arg17.IsWhole) (arg18 : Memref sig .tc .vmem S100x256 .f32) (harg18 : arg18.IsWhole) (arg19 : Memref sig .tc .vmem S256x1 .f32) (harg19 : arg19.IsWhole) (arg20 : Memref sig .tc .vmem S768x256 .f32) (harg20 : arg20.IsWhole) (arg21 : Memref sig .tc .vmem S256x1 .f32) (harg21 : arg21.IsWhole) (arg22 : Memref sig .tc .vmem S768x256 .f32) (harg22 : arg22.IsWhole) (arg23 : Memref sig .tc .vmem S256x1 .f32) (harg23 : arg23.IsWhole) (arg24 : Memref sig .tc .vmem S256x1 .f32) (harg24 : arg24.IsWhole) (arg25 : Memref sig .tc .vmem S1x1 .f32) (harg25 : arg25.IsWhole) (arg26 : Memref sig .tc .vmem S1x2048x1 .f32) (harg26 : arg26.IsWhole) (arg27 : Memref sig .tc .vmem S1x2048x1 .f32) (harg27 : arg27.IsWhole) (arg28 : Memref sig .tc .vmem S1x2048x1 .f32) (harg28 : arg28.IsWhole) (arg29 : Memref sig .tc .vmem S1x2048x1 .f32) (harg29 : arg29.IsWhole) (arg30 : Memref sig .tc .vmem S1x16x2048 .f32) (harg30 : arg30.IsWhole) (arg31 : Memref sig .tc .vmem S1x16x768 .f32) (harg31 : arg31.IsWhole) (arg32 : Memref sig .tc .vmem S1x16x2048 .f32) (harg32 : arg32.IsWhole) (arg33 : Memref sig .tc .vmem S1x16x768 .f32) (harg33 : arg33.IsWhole) (X : Ins F) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21 ∗ owns (c : Thread nD τ) arg23 fullShare X.x22 ∗ owns (c : Thread nD τ) arg24 fullShare X.x23 ∗ owns (c : Thread nD τ) arg25 fullShare X.x24 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21 ∗ owns (c : Thread nD τ) arg23 fullShare X.x22 ∗ owns (c : Thread nD τ) arg24 fullShare X.x23 ∗ owns (c : Thread nD τ) arg25 fullShare X.x24 ∗ owns (c : Thread nD τ) arg26 fullShare (out25 X) ∗ owns (c : Thread nD τ) arg27 fullShare (out26 X) ∗ owns (c : Thread nD τ) arg28 fullShare (out27 X) ∗ owns (c : Thread nD τ) arg29 fullShare (out28 X) ∗ owns (c : Thread nD τ) arg30 fullShare (out29 X) ∗ owns (c : Thread nD τ) arg31 fullShare (out30 X) ∗ owns (c : Thread nD τ) arg32 fullShare (out31 X) ∗ owns (c : Thread nD τ) arg33 fullShare (out32 X)) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__fused_eq_skeleton]; unfold cc0__fused_skel
  simp only [k0_part7_eq_skeleton, k0_part1_eq_skeleton, k0_part2_eq_skeleton, k0_part3_eq_skeleton, k0_part4_eq_skeleton, k0_part5_eq_skeleton, k0_part6_eq_skeleton]
  obtain ⟨x0, x1, x2, x3, x4, x5, x6, x7, x8, x9, x10, x11, x12, x13, x14, x15, x16, x17, x18, x19, x20, x21, x22, x23, x24⟩ := X
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]; · iapply (held_in arg1 f0); iexact H0
  isplitl [H1]; · iapply (held_in arg2 f1); iexact H1
  isplitl [H2]; · iapply (held_in arg3 f2); iexact H2
  isplitl [H3]; · iapply (held_in arg4 f3); iexact H3
  isplitl [H4]; · iapply (held_in arg5 f4); iexact H4
  isplitl [H5]; · iapply (held_in arg6 f5); iexact H5
  isplitl [H6]; · iapply (held_in arg7 f6); iexact H6
  isplitl [H7]; · iapply (held_in arg8 f7); iexact H7
  isplitl [H8]; · iapply (held_in arg9 f8); iexact H8
  isplitl [H9]; · iapply (held_in arg10 f9); iexact H9
  isplitl [H10]; · iapply (held_in arg11 f10); iexact H10
  isplitl [H11]; · iapply (held_in arg12 f11); iexact H11
  isplitl [H12]; · iapply (held_in arg13 f12); iexact H12
  isplitl [H13]; · iapply (held_in arg14 f13); iexact H13
  isplitl [H14]; · iapply (held_in arg15 f14); iexact H14
  isplitl [H15]; · iapply (held_in arg16 f15); iexact H15
  isplitl [H16]; · iapply (held_in arg17 f16); iexact H16
  isplitl [H17]; · iapply (held_in arg18 f17); iexact H17
  isplitl [H18]; · iapply (held_in arg19 f18); iexact H18
  isplitl [H19]; · iapply (held_in arg20 f19); iexact H19
  isplitl [H20]; · iapply (held_in arg21 f20); iexact H20
  isplitl [H21]; · iapply (held_in arg22 f21); iexact H21
  isplitl [H22]; · iapply (held_in arg23 f22); iexact H22
  isplitl [H23]; · iapply (held_in arg24 f23); iexact H23
  isplitl [H24]; · iapply (held_in arg25 f24); iexact H24
  isplitl [H25]; · iexists _; isplitr; swap; (iexact H25); ipureintro; refine (read_filled arg26 _ _ _ (by rfl)).trans ?_; sl_kernel_rfl
  isplitl [H26]; · iexists _; isplitr; swap; (iexact H26); ipureintro; refine (read_filled arg27 _ _ _ (by rfl)).trans ?_; sl_kernel_rfl
  isplitl [H27]; · iexists _; isplitr; swap; (iexact H27); ipureintro; refine (read_filled arg28 _ _ _ (by rfl)).trans ?_; sl_kernel_rfl
  isplitl [H28]; · iexists _; isplitr; swap; (iexact H28); ipureintro; refine (read_filled arg29 _ _ _ (by rfl)).trans ?_; sl_kernel_rfl
  isplitl [H29]; · iexists _; isplitr; swap; (iexact H29); ipureintro; refine (read_filled arg30 _ _ _ (by rfl)).trans ?_; sl_kernel_rfl
  isplitl [H30]; · iexists _; isplitr; swap; (iexact H30); ipureintro; refine (read_filled arg31 _ _ _ (by rfl)).trans ?_; sl_kernel_rfl
  isplitl [H31]; · iexists _; isplitr; swap; (iexact H31); ipureintro; refine (read_filled arg32 _ _ _ (by rfl)).trans ?_; sl_kernel_rfl
  iexists _; isplitr; swap; (iexact H32); ipureintro; refine (read_filled arg33 _ _ _ (by rfl)).trans ?_; sl_kernel_rfl

/-! ## The pipeline's proof data -/

variable (m : (ℓ : Loc nD τ sig) → Buf (Elt F) ℓ) (ρ : Dev nD → PrngReg)

/-- The input blocks of grid point `t`. -/
def ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t
  x23 := iblk m c 23 t
  x24 := iblk m c 24 t

/-- The proof data of the one pipeline on core `c`: the arrays as the region finds them; after the body at point `t`
    each input block as it was and each output block at `outW` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out25 (ins m c t)
    | ⟨26, _⟩ => out26 (ins m c t)
    | ⟨27, _⟩ => out27 (ins m c t)
    | ⟨28, _⟩ => out28 (ins m c t)
    | ⟨29, _⟩ => out29 (ins m c t)
    | ⟨30, _⟩ => out30 (ins m c t)
    | ⟨31, _⟩ => out31 (ins m c t)
    | ⟨32, _⟩ => out32 (ins m c t)
    | ⟨_ + 33, h⟩ => absurd h (Nat.not_lt.2 (Nat.le_add_left _ _))
  Φ _ := Pipeline.ΦA spec0 c
  q _ := fullShare
  owed _ := 0

/-- The proof data's arrays are the contents at region entry. -/
theorem A_eq (c : Dev nD) (w : Fin cfg0.W) : (dats m 0 c).A w = V m c (Pipeline.arrRef spec0 w) := by
  dsimp only [dats]

/-! What the body leaves, window by window; and what it finds in an input window's buffer: that window's block. -/

theorem after0 (c : Dev nD) (t : Fin cfg0.N) : (dats m 0 c).after 0 t = (ins m c t).x0 := by dsimp only [dats, ins]
theorem after1 (c : Dev nD) (t : Fin cfg0.N) : (dats m 0 c).after 1 t = (ins m c t).x1 := by dsimp only [dats, ins]
theorem after2 (c : Dev nD) (t : Fin cfg0.N) : (dats m 0 c).after 2 t = (ins m c t).x2 := by dsimp only [dats, ins]
theorem after3 (c : Dev nD) (t : Fin cfg0.N) : (dats m 0 c).after 3 t = (ins m c t).x3 := by dsimp only [dats, ins]
theorem after4 (c : Dev nD) (t : Fin cfg0.N) : (dats m 0 c).after 4 t = (ins m c t).x4 := by dsimp only [dats, ins]
theorem after5 (c : Dev nD) (t : Fin cfg0.N) : (dats m 0 c).after 5 t = (ins m c t).x5 := by dsimp only [dats, ins]
theorem after6 (c : Dev nD) (t : Fin cfg0.N) : (dats m 0 c).after 6 t = (ins m c t).x6 := by dsimp only [dats, ins]
theorem after7 (c : Dev nD) (t : Fin cfg0.N) : (dats m 0 c).after 7 t = (ins m c t).x7 := by dsimp only [dats, ins]
theorem after8 (c : Dev nD) (t : Fin cfg0.N) : (dats m 0 c).after 8 t = (ins m c t).x8 := by dsimp only [dats, ins]
theorem after9 (c : Dev nD) (t : Fin cfg0.N) : (dats m 0 c).after 9 t = (ins m c t).x9 := by dsimp only [dats, ins]
theorem after10 (c : Dev nD) (t : Fin cfg0.N) : (dats m 0 c).after 10 t = (ins m c t).x10 := by dsimp only [dats, ins]
theorem after11 (c : Dev nD) (t : Fin cfg0.N) : (dats m 0 c).after 11 t = (ins m c t).x11 := by dsimp only [dats, ins]
theorem after12 (c : Dev nD) (t : Fin cfg0.N) : (dats m 0 c).after 12 t = (ins m c t).x12 := by dsimp only [dats, ins]
theorem after13 (c : Dev nD) (t : Fin cfg0.N) : (dats m 0 c).after 13 t = (ins m c t).x13 := by dsimp only [dats, ins]
theorem after14 (c : Dev nD) (t : Fin cfg0.N) : (dats m 0 c).after 14 t = (ins m c t).x14 := by dsimp only [dats, ins]
theorem after15 (c : Dev nD) (t : Fin cfg0.N) : (dats m 0 c).after 15 t = (ins m c t).x15 := by dsimp only [dats, ins]
theorem after16 (c : Dev nD) (t : Fin cfg0.N) : (dats m 0 c).after 16 t = (ins m c t).x16 := by dsimp only [dats, ins]
theorem after17 (c : Dev nD) (t : Fin cfg0.N) : (dats m 0 c).after 17 t = (ins m c t).x17 := by dsimp only [dats, ins]
theorem after18 (c : Dev nD) (t : Fin cfg0.N) : (dats m 0 c).after 18 t = (ins m c t).x18 := by dsimp only [dats, ins]
theorem after19 (c : Dev nD) (t : Fin cfg0.N) : (dats m 0 c).after 19 t = (ins m c t).x19 := by dsimp only [dats, ins]
theorem after20 (c : Dev nD) (t : Fin cfg0.N) : (dats m 0 c).after 20 t = (ins m c t).x20 := by dsimp only [dats, ins]
theorem after21 (c : Dev nD) (t : Fin cfg0.N) : (dats m 0 c).after 21 t = (ins m c t).x21 := by dsimp only [dats, ins]
theorem after22 (c : Dev nD) (t : Fin cfg0.N) : (dats m 0 c).after 22 t = (ins m c t).x22 := by dsimp only [dats, ins]
theorem after23 (c : Dev nD) (t : Fin cfg0.N) : (dats m 0 c).after 23 t = (ins m c t).x23 := by dsimp only [dats, ins]
theorem after24 (c : Dev nD) (t : Fin cfg0.N) : (dats m 0 c).after 24 t = (ins m c t).x24 := by dsimp only [dats, ins]
theorem after25 (c : Dev nD) (t : Fin cfg0.N) : (dats m 0 c).after 25 t = out25 (ins m c t) := by dsimp only [dats]
theorem after26 (c : Dev nD) (t : Fin cfg0.N) : (dats m 0 c).after 26 t = out26 (ins m c t) := by dsimp only [dats]
theorem after27 (c : Dev nD) (t : Fin cfg0.N) : (dats m 0 c).after 27 t = out27 (ins m c t) := by dsimp only [dats]
theorem after28 (c : Dev nD) (t : Fin cfg0.N) : (dats m 0 c).after 28 t = out28 (ins m c t) := by dsimp only [dats]
theorem after29 (c : Dev nD) (t : Fin cfg0.N) : (dats m 0 c).after 29 t = out29 (ins m c t) := by dsimp only [dats]
theorem after30 (c : Dev nD) (t : Fin cfg0.N) : (dats m 0 c).after 30 t = out30 (ins m c t) := by dsimp only [dats]
theorem after31 (c : Dev nD) (t : Fin cfg0.N) : (dats m 0 c).after 31 t = out31 (ins m c t) := by dsimp only [dats]
theorem after32 (c : Dev nD) (t : Fin cfg0.N) : (dats m 0 c).after 32 t = out32 (ins m c t) := by dsimp only [dats]
theorem before0 (c : Dev nD) (t : Fin cfg0.N) (d) : (dats m 0 c).before 0 t d = (ins m c t).x0 :=
  before0_0_of m (dats m 0 c) (A_eq m c 0) (after0 m c) t d
theorem before1 (c : Dev nD) (t : Fin cfg0.N) (d) : (dats m 0 c).before 1 t d = (ins m c t).x1 :=
  before0_1_of m (dats m 0 c) (A_eq m c 1) (after1 m c) t d
theorem before2 (c : Dev nD) (t : Fin cfg0.N) (d) : (dats m 0 c).before 2 t d = (ins m c t).x2 :=
  before0_2_of m (dats m 0 c) (A_eq m c 2) (after2 m c) t d
theorem before3 (c : Dev nD) (t : Fin cfg0.N) (d) : (dats m 0 c).before 3 t d = (ins m c t).x3 :=
  before0_3_of m (dats m 0 c) (A_eq m c 3) (after3 m c) t d
theorem before4 (c : Dev nD) (t : Fin cfg0.N) (d) : (dats m 0 c).before 4 t d = (ins m c t).x4 :=
  before0_4_of m (dats m 0 c) (A_eq m c 4) (after4 m c) t d
theorem before5 (c : Dev nD) (t : Fin cfg0.N) (d) : (dats m 0 c).before 5 t d = (ins m c t).x5 :=
  before0_5_of m (dats m 0 c) (A_eq m c 5) (after5 m c) t d
theorem before6 (c : Dev nD) (t : Fin cfg0.N) (d) : (dats m 0 c).before 6 t d = (ins m c t).x6 :=
  before0_6_of m (dats m 0 c) (A_eq m c 6) (after6 m c) t d
theorem before7 (c : Dev nD) (t : Fin cfg0.N) (d) : (dats m 0 c).before 7 t d = (ins m c t).x7 :=
  before0_7_of m (dats m 0 c) (A_eq m c 7) (after7 m c) t d
theorem before8 (c : Dev nD) (t : Fin cfg0.N) (d) : (dats m 0 c).before 8 t d = (ins m c t).x8 :=
  before0_8_of m (dats m 0 c) (A_eq m c 8) (after8 m c) t d
theorem before9 (c : Dev nD) (t : Fin cfg0.N) (d) : (dats m 0 c).before 9 t d = (ins m c t).x9 :=
  before0_9_of m (dats m 0 c) (A_eq m c 9) (after9 m c) t d
theorem before10 (c : Dev nD) (t : Fin cfg0.N) (d) : (dats m 0 c).before 10 t d = (ins m c t).x10 :=
  before0_10_of m (dats m 0 c) (A_eq m c 10) (after10 m c) t d
theorem before11 (c : Dev nD) (t : Fin cfg0.N) (d) : (dats m 0 c).before 11 t d = (ins m c t).x11 :=
  before0_11_of m (dats m 0 c) (A_eq m c 11) (after11 m c) t d
theorem before12 (c : Dev nD) (t : Fin cfg0.N) (d) : (dats m 0 c).before 12 t d = (ins m c t).x12 :=
  before0_12_of m (dats m 0 c) (A_eq m c 12) (after12 m c) t d
theorem before13 (c : Dev nD) (t : Fin cfg0.N) (d) : (dats m 0 c).before 13 t d = (ins m c t).x13 :=
  before0_13_of m (dats m 0 c) (A_eq m c 13) (after13 m c) t d
theorem before14 (c : Dev nD) (t : Fin cfg0.N) (d) : (dats m 0 c).before 14 t d = (ins m c t).x14 :=
  before0_14_of m (dats m 0 c) (A_eq m c 14) (after14 m c) t d
theorem before15 (c : Dev nD) (t : Fin cfg0.N) (d) : (dats m 0 c).before 15 t d = (ins m c t).x15 :=
  before0_15_of m (dats m 0 c) (A_eq m c 15) (after15 m c) t d
theorem before16 (c : Dev nD) (t : Fin cfg0.N) (d) : (dats m 0 c).before 16 t d = (ins m c t).x16 :=
  before0_16_of m (dats m 0 c) (A_eq m c 16) (after16 m c) t d
theorem before17 (c : Dev nD) (t : Fin cfg0.N) (d) : (dats m 0 c).before 17 t d = (ins m c t).x17 :=
  before0_17_of m (dats m 0 c) (A_eq m c 17) (after17 m c) t d
theorem before18 (c : Dev nD) (t : Fin cfg0.N) (d) : (dats m 0 c).before 18 t d = (ins m c t).x18 :=
  before0_18_of m (dats m 0 c) (A_eq m c 18) (after18 m c) t d
theorem before19 (c : Dev nD) (t : Fin cfg0.N) (d) : (dats m 0 c).before 19 t d = (ins m c t).x19 :=
  before0_19_of m (dats m 0 c) (A_eq m c 19) (after19 m c) t d
theorem before20 (c : Dev nD) (t : Fin cfg0.N) (d) : (dats m 0 c).before 20 t d = (ins m c t).x20 :=
  before0_20_of m (dats m 0 c) (A_eq m c 20) (after20 m c) t d
theorem before21 (c : Dev nD) (t : Fin cfg0.N) (d) : (dats m 0 c).before 21 t d = (ins m c t).x21 :=
  before0_21_of m (dats m 0 c) (A_eq m c 21) (after21 m c) t d
theorem before22 (c : Dev nD) (t : Fin cfg0.N) (d) : (dats m 0 c).before 22 t d = (ins m c t).x22 :=
  before0_22_of m (dats m 0 c) (A_eq m c 22) (after22 m c) t d
theorem before23 (c : Dev nD) (t : Fin cfg0.N) (d) : (dats m 0 c).before 23 t d = (ins m c t).x23 :=
  before0_23_of m (dats m 0 c) (A_eq m c 23) (after23 m c) t d
theorem before24 (c : Dev nD) (t : Fin cfg0.N) (d) : (dats m 0 c).before 24 t d = (ins m c t).x24 :=
  before0_24_of m (dats m 0 c) (A_eq m c 24) (after24 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

-- 33 windows to hand over and to take back
set_option maxHeartbeats 2000000 in
/-- The body at any point: the input buffers hold their blocks, so `sound_kernel` applies; the invariant and the core's
    obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24]
  simp only [after0, after1, after2, after3, after4, after5, after6, after7, after8, after9, after10, after11, after12, after13, after14, after15, after16, after17, after18, after19, after20, after21, after22, after23, after24, after25, after26, after27, after28, after29, after30, after31, after32]
  rw [show (dats m 0 c).Φ t.succ = (dats m 0 c).Φ t.castSucc from rfl,
    show (dats m 0 c).owesAt () t.succ = (dats m 0 c).owesAt () t.castSucc from rfl]
  generalize ins m c t = X
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ X _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

-- a conjunction over 33 windows opened twice
set_option maxHeartbeats 2000000 in
/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments are found by unifying the conclusion with this one, which takes unfolding plain definitions
set_option backward.isDefEq.respectTransparency.types false in
-- 33 windows
set_option maxHeartbeats 2000000 in
/-- Every weakly fair run terminates; at its end every array of the pipeline holds what the proof data says, every other
    buffer what it held at region entry, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- `run_main_quiescent` without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

/-- The frame: every weakly fair run terminates, the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) ∧ r.2.sem = fun _ => 0) :=
  θ_run_and (unchanged m ρ) ((θ_run defs _ _).mono (fun _ h => h.2) (run_main_quiescent m ρ))

end Cert.KernelIdeal.Hand

end
-- ==== Proof.Frames.lean ====
/- The frames of the three programs: every run ends, the arguments are as they were, and every semaphore counter is
   back at zero. The kernel and its idealized form have the same text, so one frame, proved for any float values, gives both. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdeal.Body
public import Idealize.ShloMosaic.Lib.Tactic

@[expose] public section

set_option maxRecDepth 16384

noncomputable section

namespace Cert.Proof

open Idealize.ShloMosaic Idealize.SL.Sem

/-- The frame of the idealized kernel. -/
theorem frame_kernelIdeal : Cert.quiescent_KernelIdeal (hKernelIdeal := Cert.KernelIdeal.Gen.facts) :=
  fun m ρ _ => Cert.KernelIdeal.Hand.frame m ρ

/-- The frame of the kernel at the bit-exact floats: the frame proved at any float values, read at those. The two
    programs unfold to the same term, which is what the equation `e` says. -/
theorem frame_kernel : Cert.quiescent_Kernel (hKernel := Cert.Kernel.Gen.facts) := by
  have h := fun (m : (ℓ : Loc Cert.KernelIdeal.nD Cert.KernelIdeal.τ Cert.KernelIdeal.sig) → Buf (Elt Bits) ℓ)
    (ρ : Dev Cert.KernelIdeal.nD → PrngReg) (_ : True) => Cert.KernelIdeal.Hand.frame m ρ
  have e : (type_of% h) = Cert.quiescent_Kernel (hKernel := Cert.Kernel.Gen.facts) := by sl_kernel_rfl
  exact e.mp h

/-- The frame of the reference: its run keeps the arguments, and it declares no semaphore. -/
theorem frame_referenceIdeal : Cert.quiescent_ReferenceIdeal (hReferenceIdeal := Cert.ReferenceIdeal.Gen.facts) := by
  intro m ρ _
  exact (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

end Cert.Proof

end
-- ==== Proof.Spec.lean ====
/- The mathematics of the problem over the extended reals, apart from any array or tiling.

   `prob` is one entity probability: the logistic function of a linear score. `Attn` holds the weights of one relation
   attention, whose relations are vectors of any length `d` (768 for the semantic ones, 100 for the transition ones);
   `Attn.weight` is its attention weight and `Attn.ctx` its context. Every claim of this directory meets in these. -/
module

public import Idealize.ShloMosaic.PureOps.Ideal
public import Idealize.ShloMosaic.Lib.Pointwise.Index
public import Mathlib.Algebra.BigOperators.Group.Finset.Basic

@[expose] public section

noncomputable section

namespace Cert.Spec

open Idealize.ShloMosaic

/-- One entity probability: the logistic function of `x · w + b`. -/
def prob (x w : Fin 768 → EReal) (b : EReal) : EReal := Ideal.logistic ((∑ k, x k * w k) + b)

/-- The greatest of 2048 scores. -/
def top (s : Fin 2048 → EReal) : EReal := (Finset.univ : Finset (Fin 2048)).fold max ⊥ s

/-- The softmax of 2048 scores, the greatest subtracted first. -/
def softmax (s : Fin 2048 → EReal) (p : Fin 2048) : EReal :=
  Ideal.div (Ideal.exp (s p - top s)) (∑ q, Ideal.exp (s q - top s))

/-- The weights of one relation attention: the relation vectors, the three linear maps into the 256 hidden units with
    their biases (`wr` of the relation, `wg` of the mean embedding, `wx` of the token), and the score's own row `v`. -/
structure Attn (d : ℕ) where
  rel : Fin 16 → Fin d → EReal
  wr : Fin d → Fin 256 → EReal
  br : Fin 256 → EReal
  wg : Fin 768 → Fin 256 → EReal
  bg : Fin 256 → EReal
  wx : Fin 768 → Fin 256 → EReal
  bx : Fin 256 → EReal
  v : Fin 256 → EReal
  bv : EReal

namespace Attn

variable {d : ℕ} (A : Attn d) (x : Fin 2048 → Fin 768 → EReal) (g : Fin 768 → EReal)

/-- Hidden unit `h` of relation `r` at token `p`, before the hyperbolic tangent. -/
def unit (r : Fin 16) (p : Fin 2048) (h : Fin 256) : EReal :=
  ((∑ k, x p k * A.wx k h) + A.bx h) + ((∑ j, A.rel r j * A.wr j h) + A.br h) + ((∑ k, g k * A.wg k h) + A.bg h)

/-- The score of token `p` under relation `r`. -/
def score (r : Fin 16) (p : Fin 2048) : EReal := (∑ h, Ideal.tanh (A.unit x g r p h) * A.v h) + A.bv

/-- The attention weight of token `p` under relation `r`. -/
def weight (r : Fin 16) (p : Fin 2048) : EReal := softmax (A.score x g r) p

/-- Component `e` of the context of relation `r`: the tokens, weighted. -/
def ctx (r : Fin 16) (e : Fin 768) : EReal := ∑ p, A.weight x g r p * x p e

/-- The same hidden unit with the transposed products first and the two token-independent biases of the mean and of the
    token summed ahead of time. Addition and multiplication commute and addition associates on all extended reals, so no
    finiteness is asked. -/
theorem unit_eq (r : Fin 16) (p : Fin 2048) (h : Fin 256) :
    ((∑ k, A.wx k h * x p k) + (((∑ k, A.wg k h * g k) + A.bg h) + A.bx h)) + ((∑ j, A.wr j h * A.rel r j) + A.br h)
      = A.unit x g r p h := by
  unfold unit
  simp only [mul_comm (A.wx _ _), mul_comm (A.wg _ _), mul_comm (A.wr _ _)]
  ac_rfl

/-- The same score with the score's row as the left factor. -/
theorem score_eq (r : Fin 16) (p : Fin 2048) :
    (∑ h, A.v h * Ideal.tanh (A.unit x g r p h)) + A.bv = A.score x g r p := by
  unfold score
  simp only [mul_comm (A.v _)]

end Attn

/-- The weights of one attention, read off the eight arrays of weights and the array of relation vectors. -/
def attnOf {d : ℕ} (rel : (⟨2, ![16, d]⟩ : Shape).Idx → EReal) (wr : (⟨2, ![d, 256]⟩ : Shape).Idx → EReal)
    (br : (⟨1, ![256]⟩ : Shape).Idx → EReal) (wg : (⟨2, ![768, 256]⟩ : Shape).Idx → EReal)
    (bg : (⟨1, ![256]⟩ : Shape).Idx → EReal) (wx : (⟨2, ![768, 256]⟩ : Shape).Idx → EReal)
    (bx : (⟨1, ![256]⟩ : Shape).Idx → EReal) (v : (⟨2, ![256, 1]⟩ : Shape).Idx → EReal)
    (bv : (⟨1, ![1]⟩ : Shape).Idx → EReal) : Attn d where
  rel r j := rel (ix2 r j)
  wr j h := wr (ix2 j h)
  br h := br (ix1 h)
  wg k h := wg (ix2 k h)
  bg h := bg (ix1 h)
  wx k h := wx (ix2 k h)
  bx h := bx (ix1 h)
  v h := v (ix2 h 0)
  bv := bv (ix1 0)

/-- The tokens of batch member `b`. -/
def tokens (x : (⟨3, ![4, 2048, 768]⟩ : Shape).Idx → EReal) (b : Fin 4) (p : Fin 2048) (k : Fin 768) : EReal := x
    (ix3 b p k)

/-- The mean embedding of batch member `b`. -/
def mean (g : (⟨2, ![4, 768]⟩ : Shape).Idx → EReal) (b : Fin 4) (k : Fin 768) : EReal := g (ix2 b k)

/-- The probability of token `p` of batch member `b`, from the arrays. -/
def probOf (x : (⟨3, ![4, 2048, 768]⟩ : Shape).Idx → EReal) (w : (⟨2, ![768, 1]⟩ : Shape).Idx → EReal)
    (c : (⟨1, ![1]⟩ : Shape).Idx → EReal) (b : Fin 4) (p : Fin 2048) : EReal :=
  prob (tokens x b p) (fun k => w (ix2 k 0)) (c (ix1 0))

/-! ## The results, as arrays -/

/-- The array of one entity probability. -/
def probArr (x : (⟨3, ![4, 2048, 768]⟩ : Shape).Idx → EReal) (w : (⟨2, ![768, 1]⟩ : Shape).Idx → EReal)
    (c : (⟨1, ![1]⟩ : Shape).Idx → EReal) : (⟨3, ![4, 2048, 1]⟩ : Shape).Idx → EReal := fun i => probOf x w c (i 0)
      (i 1)

/-- The array of the attention weights. -/
def weightArr {d : ℕ} (A : Attn d) (x : (⟨3, ![4, 2048, 768]⟩ : Shape).Idx → EReal)
    (g : (⟨2, ![4, 768]⟩ : Shape).Idx → EReal) :
    (⟨3, ![4, 16, 2048]⟩ : Shape).Idx → EReal := fun i => A.weight (tokens x (i 0)) (mean g (i 0)) (i 1) (i 2)

/-- The array of the contexts. -/
def ctxArr {d : ℕ} (A : Attn d) (x : (⟨3, ![4, 2048, 768]⟩ : Shape).Idx → EReal)
    (g : (⟨2, ![4, 768]⟩ : Shape).Idx → EReal) :
    (⟨3, ![4, 16, 768]⟩ : Shape).Idx → EReal := fun i => A.ctx (tokens x (i 0)) (mean g (i 0)) (i 1) (i 2)

end Cert.Spec

end
-- ==== Proof.Block.lean ====
/- What one grid point computes: each vector it stores, read at an index, is the mathematics of Spec over the blocks it
   has loaded. The two attentions have the same text from the projections on, so each fact is stated once. -/
module

public import proofs.«01_k».proof.Proof.KernelIdeal.Body
public import proofs.«01_k».proof.Proof.Spec
public import Idealize.ShloMosaic.Lib.Pointwise
public import Idealize.ShloMosaic.Lib.Tactic

@[expose] public section

set_option maxRecDepth 16384

noncomputable section

namespace Cert.Proof.Block

open Cert.KernelIdeal Cert.KernelIdeal.Gen Cert.KernelIdeal.Hand Cert.Spec Idealize.ShloMosaic

/-! ## The rows of scores -/

theorem slices16 : ∀ n : Fin 16, S256x16.Slices ![0, n.val] S256x1 := by decide

/-- The scores of relation `n` before the last bias, as the body computes them: the token part `a` plus column `n` of the
    relation part `b`, its hyperbolic tangent, and the product with the score's row `v`. -/
def rowOf {F : FTy → Type} [FloatOps F] (a : FVec F S256x2048 .bf16) (b : FVec F S256x16 .bf16)
    (v : FVec F S256x1 .bf16)
    (n : Fin 16) : FVec F S1x2048 .f32 :=
  matmul dot_S256x1_S256x2048_S1x2048_0_0_1_1_n_n none v
    (tanh (addf a (broadcastTo S256x2048 (extractStridedSlice S256x1 ![0, n.val] b (slices16 n))
      broadcasts_S256x1_S256x2048)))
    (constant S1x2048 .f32 0x00000000#32)

theorem stacks16 {F : FTy → Type} (f : Fin 16 → FVec F S1x2048 .f32) :
    Shape.Concatenates ((List.ofFn fun n : Fin 16 => (⟨S1x2048, f n⟩ : (s : Shape) × (s.Idx → F .f32))).map (·.1))
      S16x2048 0 := by
  rw [List.map_ofFn]
  exact (by decide : Shape.Concatenates (List.ofFn fun _ : Fin 16 => S1x2048) S16x2048 0)

/-- The sixteen rows, stacked. -/
def rows {F : FTy → Type} [FloatOps F] (a : FVec F S256x2048 .bf16) (b : FVec F S256x16 .bf16)
    (v : FVec F S256x1 .bf16) :
    FVec F S16x2048 .f32 :=
  concatenate S16x2048 0 (List.ofFn fun n : Fin 16 => ⟨S1x2048, rowOf a b v n⟩) (stacks16 _)

/-- A row at token `p`. -/
theorem rowOf_apply (a : FVec Ideal S256x2048 .bf16) (b : FVec Ideal S256x16 .bf16) (v : FVec Ideal S256x1 .bf16)
    (n : Fin 16)
    (p : Fin 2048) :
    rowOf a b v n (ix2 0 p) = ∑ h : Fin 256, v (ix2 h 0) * Ideal.tanh (a (ix2 h p) + b (ix2 h n)) := by
  pointwise [rowOf]

/-- The stack at relation `r` and token `p`. -/
theorem rows_apply (a : FVec Ideal S256x2048 .bf16) (b : FVec Ideal S256x16 .bf16) (v : FVec Ideal S256x1 .bf16)
    (r : Fin 16)
    (p : Fin 2048) :
    rows a b v (ix2 r p) = ∑ h : Fin 256, v (ix2 h 0) * Ideal.tanh (a (ix2 h p) + b (ix2 h r)) := by
  rw [← rowOf_apply a b v r p]
  exact concatenate_ofFn_unit_apply (t := S16x2048) (s₁ := S1x2048) 0 (rowOf a b v) _ rfl rfl (ix2 r p) r rfl
    (ix2 0 p) fun c hc => by
    match c with
    | ⟨0, _⟩ => exact absurd rfl hc
    | ⟨1, _⟩ => rfl

/-! ## The parts -/

/-- The word of −∞ denotes the least extended real. -/
theorem negInf : Ideal.ofBits .f32 0xFF800000#32 = ⊥ := by simp [Ideal.ofBits, Ideal.ieee]

/-- The softmax of each row of scores, after the last bias. -/
theorem soft_apply (s : FVec Ideal S16x2048 .f32) (c : Vec Ideal S1x1 .f32) (r : Fin 16) (p : Fin 2048) :
    k0_pay48 s c (ix2 r p) = softmax (fun q => s (ix2 r q) + c (ix2 0 0)) p := by
  pointwise [k0_pay48]
  simp only [negInf]
  rfl

/-- The context: the weights times the tokens. -/
theorem mix_apply (x : FVec Ideal S2048x768 .bf16) (w : FVec Ideal S16x2048 .f32) (r : Fin 16) (e : Fin 768) :
    k0_pay50 x w (ix3 0 r e) = ∑ p : Fin 2048, w (ix2 r p) * x (ix2 p e) := by
  pointwise [k0_pay50]

/-- The token part of a hidden unit, with the mean's part and both biases added in. -/
theorem token_apply (g : FVec Ideal S1x768 .f32) (x : FVec Ideal S2048x768 .bf16) (wx wg : Vec Ideal S768x256 .f32)
    (bg bx : Vec Ideal S256x1 .f32) (h : Fin 256) (p : Fin 2048) :
    k0_pay9 g x wx wg bg bx (ix2 h p)
      = (∑ k : Fin 768, wx (ix2 k h) * x (ix2 p k))
        + (((∑ k : Fin 768, wg (ix2 k h) * g (ix2 0 k)) + bg (ix2 h 0)) + bx (ix2 h 0)) := by
  pointwise [k0_pay9]

/-- The semantic relations' part of a hidden unit. -/
theorem semRel_apply (wr : Vec Ideal S768x256 .f32) (rel : Vec Ideal S16x768 .f32) (br : Vec Ideal S256x1 .f32)
    (h : Fin 256)
    (r : Fin 16) :
    k0_pay10 wr rel br (ix2 h r) = (∑ j : Fin 768, wr (ix2 j h) * rel (ix2 r j)) + br (ix2 h 0) := by
  pointwise [k0_pay10]

/-- The transition relations' part of a hidden unit. -/
theorem trRel_apply (wr : Vec Ideal S100x256 .f32) (rel : Vec Ideal S16x100 .f32) (br : Vec Ideal S256x1 .f32)
    (h : Fin 256)
    (r : Fin 16) :
    k0_pay29 wr rel br (ix2 h r) = (∑ j : Fin 100, wr (ix2 j h) * rel (ix2 r j)) + br (ix2 h 0) := by
  pointwise [k0_pay29]

/-! ## The attentions of one grid point -/

/-- The weights of an attention as a grid point holds them: the biases and the score's row are columns. -/
def attnBlk {d : ℕ} (rel : (⟨2, ![16, d]⟩ : Shape).Idx → EReal) (wr : (⟨2, ![d, 256]⟩ : Shape).Idx → EReal)
    (br : S256x1.Idx → EReal) (wg : S768x256.Idx → EReal) (bg : S256x1.Idx → EReal) (wx : S768x256.Idx → EReal)
    (bx v : S256x1.Idx → EReal) (bv : S1x1.Idx → EReal) : Attn d where
  rel r j := rel (ix2 r j)
  wr j h := wr (ix2 j h)
  br h := br (ix2 h 0)
  wg k h := wg (ix2 k h)
  bg h := bg (ix2 h 0)
  wx k h := wx (ix2 k h)
  bx h := bx (ix2 h 0)
  v h := v (ix2 h 0)
  bv := bv (ix2 0 0)

variable (X : Ins Ideal)

/-- The tokens a grid point has loaded. -/
def toks (p : Fin 2048) (k : Fin 768) : EReal := X.x0 (ix3 0 p k)

/-- The mean embedding a grid point has loaded. -/
def avg (k : Fin 768) : EReal := X.x1 (ix3 0 0 k)

/-- The semantic attention's weights. -/
def sem : Attn 768 := attnBlk X.x7 X.x8 X.x9 X.x10 X.x11 X.x12 X.x13 X.x14 X.x15

/-- The transition attention's weights. -/
def tr : Attn 100 := attnBlk X.x16 X.x17 X.x18 X.x19 X.x20 X.x21 X.x22 X.x23 X.x24

theorem val52_apply (p : Fin 2048) (k : Fin 768) : val52 X (ix2 p k) = toks X p k := by
  pointwise [val52, k0_pay2]
  rfl

theorem val51_apply (k : Fin 768) : val51 X (ix2 0 k) = avg X k := by
  pointwise [val51, k0_pay1]
  rfl

/-- The semantic scores. -/
theorem sem_score (r : Fin 16) (p : Fin 2048) :
    rows (val53 X) (val54 X) (val55 X) (ix2 r p) + X.x15 (ix2 0 0) = (sem X).score (toks X) (avg X) r p := by
  rw [rows_apply, ← Attn.score_eq]
  simp only [← Attn.unit_eq, val53, val54, token_apply, semRel_apply, val52_apply, val51_apply]
  rfl

/-- The transition scores. -/
theorem tr_score (r : Fin 16) (p : Fin 2048) :
    rows (val68 X) (val69 X) (val70 X) (ix2 r p) + X.x24 (ix2 0 0) = (tr X).score (toks X) (avg X) r p := by
  have e : val68 X = k0_pay9 (val51 X) (val52 X) X.x21 X.x19 X.x20 X.x22 := rfl
  rw [rows_apply, ← Attn.score_eq]
  simp only [← Attn.unit_eq, e, val69, token_apply, trRel_apply, val52_apply, val51_apply]
  rfl

/-- The semantic weights, as the body computes them: the softmax of the stack. The body spells the stack row by row. -/
theorem pay29_eq : pay29 X = k0_pay49 (k0_pay48 (rows (val53 X) (val54 X) (val55 X)) X.x15) := by sl_kernel_rfl

theorem pay30_eq : pay30 X = k0_pay50 (val52 X) (k0_pay48 (rows (val53 X) (val54 X) (val55 X)) X.x15) := by
    sl_kernel_rfl

theorem val71_eq : val71 X = k0_pay48 (rows (val68 X) (val69 X) (val70 X)) X.x24 := by sl_kernel_rfl

theorem lead_apply (w : FVec Ideal S16x2048 .f32) (z : Fin 1) (r : Fin 16) (p : Fin 2048) :
    k0_pay49 w (ix3 z r p) = w (ix2 r p) := by
  obtain rfl : z = 0 := Subsingleton.elim _ _
  pointwise [k0_pay49]

/-- The softmax of the semantic stack. -/
theorem sem_soft (r : Fin 16) (p : Fin 2048) :
    k0_pay48 (rows (val53 X) (val54 X) (val55 X)) X.x15 (ix2 r p) = (sem X).weight (toks X) (avg X) r p :=
  (soft_apply _ _ r p).trans (congrArg (fun s => softmax s p) (funext (sem_score X r)))

/-- The softmax of the transition stack. -/
theorem tr_soft (r : Fin 16) (p : Fin 2048) : val71 X (ix2 r p) = (tr X).weight (toks X) (avg X) r p := by
  rw [val71_eq]
  exact (soft_apply _ _ r p).trans (congrArg (fun s => softmax s p) (funext (tr_score X r)))

/-- What the body stores of the semantic weights. -/
theorem pay29_apply (z : Fin 1) (r : Fin 16) (p : Fin 2048) :
    pay29 X (ix3 z r p) = (sem X).weight (toks X) (avg X) r p := by
  rw [pay29_eq, lead_apply, sem_soft]

/-- What the body stores of the transition weights. -/
theorem pay31_apply (z : Fin 1) (r : Fin 16) (p : Fin 2048) :
    pay31 X (ix3 z r p) = (tr X).weight (toks X) (avg X) r p := by
  rw [pay31, lead_apply, tr_soft]

/-- What the body stores of the semantic context. -/
theorem pay30_apply (z : Fin 1) (r : Fin 16) (e : Fin 768) :
    pay30 X (ix3 z r e) = (sem X).ctx (toks X) (avg X) r e := by
  obtain rfl : z = 0 := Subsingleton.elim _ _
  rw [pay30_eq, mix_apply]
  exact Finset.sum_congr rfl fun p _ => by rw [sem_soft, val52_apply]

/-- What the body stores of the transition context. -/
theorem pay32_apply (z : Fin 1) (r : Fin 16) (e : Fin 768) :
    pay32 X (ix3 z r e) = (tr X).ctx (toks X) (avg X) r e := by
  obtain rfl : z = 0 := Subsingleton.elim _ _
  rw [pay32, mix_apply]
  exact Finset.sum_congr rfl fun p _ => by rw [tr_soft, val52_apply]

/-! ## The probabilities of one grid point -/

/-- The four probabilities of a token: the columns are stacked, so column `n` of the product is of the `n`-th weights. -/
theorem probs_apply (p : Fin 2048) :
    (pay25 X (ix3 0 p 0) = prob (toks X p) (fun k => X.x2 (ix2 k 0)) (X.x6 (ix2 0 0)))
      ∧ (pay26 X (ix3 0 p 0) = prob (toks X p) (fun k => X.x3 (ix2 k 0)) (X.x6 (ix2 0 1)))
      ∧ (pay27 X (ix3 0 p 0) = prob (toks X p) (fun k => X.x4 (ix2 k 0)) (X.x6 (ix2 0 2)))
      ∧ (pay28 X (ix3 0 p 0) = prob (toks X p) (fun k => X.x5 (ix2 k 0)) (X.x6 (ix2 0 3))) := by
  refine ⟨?_, ?_, ?_, ?_⟩
  · pointwise [pay25, k0_pay4, k0_pay3, k0_pay2]
    rfl
  · pointwise [pay26, k0_pay5, k0_pay3, k0_pay2]
    rfl
  · pointwise [pay27, k0_pay6, k0_pay3, k0_pay2]
    rfl
  · pointwise [pay28, k0_pay8, k0_pay7, k0_pay3, k0_pay2]
    rfl

end Cert.Proof.Block

end
-- ==== Proof.Arr.lean ====
/- What the arrays hold: the blocks of a grid point are the arguments at its batch member, and the eight output arrays
   end at the mathematics of Spec over the arguments. -/
module

public import proofs.«01_k».proof.Proof.Block
public import Idealize.ShloMosaic.Lib.Pipeline.ValueKit
public import Idealize.ShloMosaic.Lib.StableHlo.ReadAt

@[expose] public section

set_option maxRecDepth 16384

noncomputable section

namespace Cert.Proof.Arr

open Cert.KernelIdeal Cert.KernelIdeal.Gen Cert.KernelIdeal.Hand Cert.Spec Cert.Proof.Block Idealize.ShloMosaic
  Idealize.ShloMosaic.TcCoe
open Idealize.ShloMosaic.Pipeline (Dat Cfg Window)

variable (m : (ℓ : Loc nD τ sig) → Buf (Elt Ideal) ℓ) (c : Dev nD)

/-! ## Where the blocks lie -/

/-- The tokens, the means and the eight outputs move with the grid point, one batch member at a time. -/
theorem idx_batch : ∀ t : Fin cfg0.N, win0_0.index t = ![t.val, 0, 0]
    ∧ win0_1.index t = ![t.val, 0, 0]
    ∧ win0_25.index t = ![t.val, 0, 0]
    ∧ win0_26.index t = ![t.val, 0, 0]
    ∧ win0_27.index t = ![t.val, 0, 0]
    ∧ win0_28.index t = ![t.val, 0, 0]
    ∧ win0_29.index t = ![t.val, 0, 0]
    ∧ win0_30.index t = ![t.val, 0, 0]
    ∧ win0_31.index t = ![t.val, 0, 0]
    ∧ win0_32.index t = ![t.val, 0, 0] :=
  (by decide +kernel : ∀ t : Fin grid0.N, win0_0.index t = ![t.val, 0, 0]
    ∧ win0_1.index t = ![t.val, 0, 0]
    ∧ win0_25.index t = ![t.val, 0, 0]
    ∧ win0_26.index t = ![t.val, 0, 0]
    ∧ win0_27.index t = ![t.val, 0, 0]
    ∧ win0_28.index t = ![t.val, 0, 0]
    ∧ win0_29.index t = ![t.val, 0, 0]
    ∧ win0_30.index t = ![t.val, 0, 0]
    ∧ win0_31.index t = ![t.val, 0, 0]
    ∧ win0_32.index t = ![t.val, 0, 0])

/-- Every array of weights is one block. -/
theorem idx_whole : ∀ t : Fin cfg0.N, win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![0, 0]
    ∧ win0_24.index t = ![0, 0] :=
  (by decide +kernel : ∀ t : Fin grid0.N, win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![0, 0]
    ∧ win0_24.index t = ![0, 0])

set_option maxHeartbeats 4000000 in
/-- So the block of an array of weights is that array as the region finds it. -/
theorem whole (t : Fin cfg0.N) : iblk m c 2 t = V m c main_arg5
    ∧ iblk m c 3 t = V m c main_arg7
    ∧ iblk m c 4 t = V m c main_arg9
    ∧ iblk m c 5 t = V m c main_arg11
    ∧ iblk m c 6 t = V m c main_v5
    ∧ iblk m c 7 t = V m c main_arg3
    ∧ iblk m c 8 t = V m c main_arg13
    ∧ iblk m c 9 t = V m c main_v6
    ∧ iblk m c 10 t = V m c main_arg15
    ∧ iblk m c 11 t = V m c main_v7
    ∧ iblk m c 12 t = V m c main_arg17
    ∧ iblk m c 13 t = V m c main_v8
    ∧ iblk m c 14 t = V m c main_arg19
    ∧ iblk m c 15 t = V m c main_v9
    ∧ iblk m c 16 t = V m c main_arg4
    ∧ iblk m c 17 t = V m c main_arg21
    ∧ iblk m c 18 t = V m c main_v10
    ∧ iblk m c 19 t = V m c main_arg23
    ∧ iblk m c 20 t = V m c main_v11
    ∧ iblk m c 21 t = V m c main_arg25
    ∧ iblk m c 22 t = V m c main_v12
    ∧ iblk m c 23 t = V m c main_arg27
    ∧ iblk m c 24 t = V m c main_v13 := by
  refine ⟨?_, ?_, ?_, ?_, ?_, ?_, ?_, ?_, ?_, ?_, ?_, ?_, ?_, ?_, ?_, ?_, ?_, ?_, ?_, ?_, ?_, ?_, ?_⟩ <;>
    (funext j; blk_ext [iblk, idx_whole t])

/-! ## What the host makes before the region -/

/-- The means, with an axis of extent 1 put in. -/
theorem mean_made (b : Fin 4) (k : Fin 768) : V m c main_v0 (ix3 b 0 k) = m ((c : Thread nD τ).loc main_arg1)
    (ix2 b k) := by
  unfold V
  after_reads_at

/-- The biases, made columns. -/
theorem cols_made (h : Fin 256) : V m c main_v6 (ix2 h 0) = m ((c : Thread nD τ).loc main_arg14) (ix1 h)
    ∧ V m c main_v7 (ix2 h 0) = m ((c : Thread nD τ).loc main_arg16) (ix1 h)
    ∧ V m c main_v8 (ix2 h 0) = m ((c : Thread nD τ).loc main_arg18) (ix1 h)
    ∧ V m c main_v10 (ix2 h 0) = m ((c : Thread nD τ).loc main_arg22) (ix1 h)
    ∧ V m c main_v11 (ix2 h 0) = m ((c : Thread nD τ).loc main_arg24) (ix1 h)
    ∧ V m c main_v12 (ix2 h 0) = m ((c : Thread nD τ).loc main_arg26) (ix1 h) := by
  refine ⟨?_, ?_, ?_, ?_, ?_, ?_⟩ <;>
    (unfold V; after_reads_at)

/-- The two last biases. -/
theorem bias_made : V m c main_v9 (ix2 0 0) = m ((c : Thread nD τ).loc main_arg20) (ix1 0)
    ∧ V m c main_v13 (ix2 0 0) = m ((c : Thread nD τ).loc main_arg28) (ix1 0) := by
  refine ⟨?_, ?_⟩ <;>
    (unfold V; after_reads_at)

/-- The four biases of the probabilities, side by side. -/
theorem row_made : (V m c main_v5 : Vec Ideal S1x4 .f32) = concatenate S1x4 1
    [⟨S1x1, broadcastInDim S1x1 ![0] bcast_S1_S1x1_0 (m ((c : Thread nD τ).loc main_arg6))⟩,
     ⟨S1x1, broadcastInDim S1x1 ![0] bcast_S1_S1x1_0 (m ((c : Thread nD τ).loc main_arg8))⟩,
     ⟨S1x1, broadcastInDim S1x1 ![0] bcast_S1_S1x1_0 (m ((c : Thread nD τ).loc main_arg10))⟩,
     ⟨S1x1, broadcastInDim S1x1 ![0] bcast_S1_S1x1_0 (m ((c : Thread nD τ).loc main_arg12))⟩]
    concatenates_S1x1_S1x1_S1x1_S1x1_S1x4_d1 := by
  dsimp only [V, hostOps0]
  after_results
  rfl

/-- Each of them at its column. -/
theorem row_at : V m c main_v5 (ix2 0 0) = m ((c : Thread nD τ).loc main_arg6) (ix1 0)
    ∧ V m c main_v5 (ix2 0 1) = m ((c : Thread nD τ).loc main_arg8) (ix1 0)
    ∧ V m c main_v5 (ix2 0 2) = m ((c : Thread nD τ).loc main_arg10) (ix1 0)
    ∧ V m c main_v5 (ix2 0 3) = m ((c : Thread nD τ).loc main_arg12) (ix1 0) := by
  refine ⟨?_, ?_, ?_, ?_⟩ <;>
    (refine (congrFun (row_made m c) _).trans ?_; pointwise)

/-! ## The blocks of a grid point, in the arguments -/

/-- The tokens. -/
theorem toks_eq (t : Fin 4) : toks (ins m c t) = tokens (m ((c : Thread nD τ).loc main_arg0)) t := by
  funext p k
  refine Eq.trans (?_ : (iblk m c 0 t : Vec Ideal S1x2048x768 .f32) (ix3 0 p k) = V m c main_arg0 (ix3 t p k))
    (congrFun (V_main_arg0 m c) _)
  blk_ext [iblk, idx_batch t]

/-- The mean embedding. -/
theorem avg_eq (t : Fin 4) : avg (ins m c t) = mean (m ((c : Thread nD τ).loc main_arg1)) t := by
  funext k
  refine Eq.trans (?_ : (iblk m c 1 t : Vec Ideal S1x1x768 .f32) (ix3 0 0 k) = V m c main_v0 (ix3 t 0 k))
    (mean_made m c t k)
  blk_ext [iblk, idx_batch t]

/-- The semantic attention of the arguments. -/
abbrev semA : Attn 768 := attnOf (m ((c : Thread nD τ).loc main_arg3)) (m ((c : Thread nD τ).loc main_arg13))
    (m ((c : Thread nD τ).loc main_arg14)) (m ((c : Thread nD τ).loc main_arg15))
    (m ((c : Thread nD τ).loc main_arg16)) (m ((c : Thread nD τ).loc main_arg17))
    (m ((c : Thread nD τ).loc main_arg18)) (m ((c : Thread nD τ).loc main_arg19)) (m ((c : Thread nD τ).loc main_arg20))

/-- The transition attention of the arguments. -/
abbrev trA : Attn 100 := attnOf (m ((c : Thread nD τ).loc main_arg4)) (m ((c : Thread nD τ).loc main_arg21))
    (m ((c : Thread nD τ).loc main_arg22)) (m ((c : Thread nD τ).loc main_arg23))
    (m ((c : Thread nD τ).loc main_arg24)) (m ((c : Thread nD τ).loc main_arg25))
    (m ((c : Thread nD τ).loc main_arg26)) (m ((c : Thread nD τ).loc main_arg27)) (m ((c : Thread nD τ).loc main_arg28))

/-- The semantic weights. -/
theorem sem_eq (t : Fin 4) : sem (ins m c t) = semA m c := by
  obtain ⟨w2, w3, w4, w5, w6, w7, w8, w9, w10, w11, w12, w13, w14, w15, w16, w17, w18, w19, w20, w21, w22, w23, w24⟩
    := whole m c t
  have c6 := fun h => (cols_made m c h).1
  have c7 := fun h => (cols_made m c h).2.1
  have c8 := fun h => (cols_made m c h).2.2.1
  simp only [sem, attnBlk, attnOf, ins, w7, w8, w9, w10, w11, w12, w13, w14, w15, V_main_arg3 m c, V_main_arg13 m c,
    V_main_arg15 m c,
    V_main_arg17 m c, V_main_arg19 m c, c6, c7, c8, (bias_made m c).1]

/-- The transition weights. -/
theorem tr_eq (t : Fin 4) : tr (ins m c t) = trA m c := by
  obtain ⟨w2, w3, w4, w5, w6, w7, w8, w9, w10, w11, w12, w13, w14, w15, w16, w17, w18, w19, w20, w21, w22, w23, w24⟩
    := whole m c t
  have c10 := fun h => (cols_made m c h).2.2.2.1
  have c11 := fun h => (cols_made m c h).2.2.2.2.1
  have c12 := fun h => (cols_made m c h).2.2.2.2.2
  simp only [tr, attnBlk, attnOf, ins, w16, w17, w18, w19, w20, w21, w22, w23, w24, V_main_arg4 m c, V_main_arg21 m
    c, V_main_arg23 m c,
    V_main_arg25 m c, V_main_arg27 m c, c10, c11, c12, (bias_made m c).2]

end Cert.Proof.Arr

end
-- ==== Proof.Results.lean ====
/- What the eight output arrays hold when the kernel returns: the mathematics of Spec over the arguments. -/
module

public import proofs.«01_k».proof.Proof.Arr

@[expose] public section

set_option maxRecDepth 16384

noncomputable section

namespace Cert.Proof.Arr

open Cert.KernelIdeal Cert.KernelIdeal.Gen Cert.KernelIdeal.Hand Cert.Spec Cert.Proof.Block Idealize.ShloMosaic
  Idealize.ShloMosaic.TcCoe
open Idealize.ShloMosaic.Pipeline (Dat Cfg Window)

variable (m : (ℓ : Loc nD τ sig) → Buf (Elt Ideal) ℓ) (c : Dev nD)

/-! ## One block -/

/-- The four blocks of probabilities of a grid point, in the arguments. -/
theorem probs_block (t : Fin 4) (p : Fin 2048) :
    pay25 (ins m c t) (ix3 0 p 0) = probOf (m ((c : Thread nD τ).loc main_arg0))
      (m ((c : Thread nD τ).loc main_arg5)) (m ((c : Thread nD τ).loc main_arg6)) t p
    ∧ pay26 (ins m c t) (ix3 0 p 0) = probOf (m ((c : Thread nD τ).loc main_arg0))
        (m ((c : Thread nD τ).loc main_arg7)) (m ((c : Thread nD τ).loc main_arg8)) t p
    ∧ pay27 (ins m c t) (ix3 0 p 0) = probOf (m ((c : Thread nD τ).loc main_arg0))
        (m ((c : Thread nD τ).loc main_arg9)) (m ((c : Thread nD τ).loc main_arg10)) t p
    ∧ pay28 (ins m c t) (ix3 0 p 0) = probOf (m ((c : Thread nD τ).loc main_arg0))
        (m ((c : Thread nD τ).loc main_arg11)) (m ((c : Thread nD τ).loc main_arg12)) t p := by
  obtain ⟨h5, h6, h7, h8⟩ := probs_apply (ins m c t) p
  obtain ⟨w2, w3, w4, w5, w6, -⟩ := whole m c t
  obtain ⟨r0, r1, r2, r3⟩ := row_at m c
  rw [toks_eq] at h5 h6 h7 h8
  refine ⟨h5.trans ?_, h6.trans ?_, h7.trans ?_, h8.trans ?_⟩ <;>
    simp only [probOf, ins, w2, w3, w4, w5, w6, V_main_arg5 m c, V_main_arg7 m c, V_main_arg9 m c, V_main_arg11 m c,
      r0, r1, r2, r3]

/-- The two blocks of attention weights of a grid point, in the arguments. -/
theorem weights_block (t : Fin 4) (r : Fin 16) (p : Fin 2048) :
    pay29 (ins m c t) (ix3 0 r p) = (semA m c).weight (tokens (m ((c : Thread nD τ).loc main_arg0)) t)
      (mean (m ((c : Thread nD τ).loc main_arg1)) t) r p
    ∧ pay31 (ins m c t) (ix3 0 r p) = (trA m c).weight (tokens (m ((c : Thread nD τ).loc main_arg0)) t)
        (mean (m ((c : Thread nD τ).loc main_arg1)) t) r p := by
  refine ⟨(pay29_apply (ins m c t) 0 r p).trans ?_, (pay31_apply (ins m c t) 0 r p).trans ?_⟩ <;>
    simp only [toks_eq, avg_eq, sem_eq, tr_eq]

/-- The two blocks of contexts of a grid point, in the arguments. -/
theorem ctxs_block (t : Fin 4) (r : Fin 16) (e : Fin 768) :
    pay30 (ins m c t) (ix3 0 r e) = (semA m c).ctx (tokens (m ((c : Thread nD τ).loc main_arg0)) t)
      (mean (m ((c : Thread nD τ).loc main_arg1)) t) r e
    ∧ pay32 (ins m c t) (ix3 0 r e) = (trA m c).ctx (tokens (m ((c : Thread nD τ).loc main_arg0)) t)
        (mean (m ((c : Thread nD τ).loc main_arg1)) t) r e := by
  refine ⟨(pay30_apply (ins m c t) 0 r e).trans ?_, (pay32_apply (ins m c t) 0 r e).trans ?_⟩ <;>
    simp only [toks_eq, avg_eq, sem_eq, tr_eq]

/-! ## The arrays -/

/-- The array of output 0 of the kernel: an entity probability. -/
theorem final25 : (dats m 0 c).arrAt 25 cfg0.N = probArr (m ((c : Thread nD τ).loc main_arg0))
    (m ((c : Thread nD τ).loc main_arg5)) (m ((c : Thread nD τ).loc main_arg6)) := by
  refine (dats m 0 c).arrAt_eq_of_covers 25 _ (by decide +kernel) fun t hf y => ?_
  blk_simp
  rw [after25, out25_eq]
  have hy : y = ix3 (n0 := 1) (n1 := 2048) (n2 := 1) 0 (y 1) 0 := by blk_ext
  have he : ((cfg0.win 25).blk t).view.emb y = ix3 (n0 := 4) (n1 := 2048) (n2 := 1) t (y 1) 0 := by
    blk_ext [idx_batch t]
  refine (congrArg (pay25 (ins m c t)) hy).trans ((probs_block m c t (y 1)).1.trans ?_)
  exact (congrArg (probArr (m ((c : Thread nD τ).loc main_arg0)) (m ((c : Thread nD τ).loc main_arg5))
    (m ((c : Thread nD τ).loc main_arg6))) he).symm

/-- The array of output 1 of the kernel: an entity probability. -/
theorem final26 : (dats m 0 c).arrAt 26 cfg0.N = probArr (m ((c : Thread nD τ).loc main_arg0))
    (m ((c : Thread nD τ).loc main_arg7)) (m ((c : Thread nD τ).loc main_arg8)) := by
  refine (dats m 0 c).arrAt_eq_of_covers 26 _ (by decide +kernel) fun t hf y => ?_
  blk_simp
  rw [after26, out26_eq]
  have hy : y = ix3 (n0 := 1) (n1 := 2048) (n2 := 1) 0 (y 1) 0 := by blk_ext
  have he : ((cfg0.win 26).blk t).view.emb y = ix3 (n0 := 4) (n1 := 2048) (n2 := 1) t (y 1) 0 := by
    blk_ext [idx_batch t]
  refine (congrArg (pay26 (ins m c t)) hy).trans ((probs_block m c t (y 1)).2.1.trans ?_)
  exact (congrArg (probArr (m ((c : Thread nD τ).loc main_arg0)) (m ((c : Thread nD τ).loc main_arg7))
    (m ((c : Thread nD τ).loc main_arg8))) he).symm

/-- The array of output 2 of the kernel: an entity probability. -/
theorem final27 : (dats m 0 c).arrAt 27 cfg0.N = probArr (m ((c : Thread nD τ).loc main_arg0))
    (m ((c : Thread nD τ).loc main_arg9)) (m ((c : Thread nD τ).loc main_arg10)) := by
  refine (dats m 0 c).arrAt_eq_of_covers 27 _ (by decide +kernel) fun t hf y => ?_
  blk_simp
  rw [after27, out27_eq]
  have hy : y = ix3 (n0 := 1) (n1 := 2048) (n2 := 1) 0 (y 1) 0 := by blk_ext
  have he : ((cfg0.win 27).blk t).view.emb y = ix3 (n0 := 4) (n1 := 2048) (n2 := 1) t (y 1) 0 := by
    blk_ext [idx_batch t]
  refine (congrArg (pay27 (ins m c t)) hy).trans ((probs_block m c t (y 1)).2.2.1.trans ?_)
  exact (congrArg (probArr (m ((c : Thread nD τ).loc main_arg0)) (m ((c : Thread nD τ).loc main_arg9))
    (m ((c : Thread nD τ).loc main_arg10))) he).symm

/-- The array of output 3 of the kernel: an entity probability. -/
theorem final28 : (dats m 0 c).arrAt 28 cfg0.N = probArr (m ((c : Thread nD τ).loc main_arg0))
    (m ((c : Thread nD τ).loc main_arg11)) (m ((c : Thread nD τ).loc main_arg12)) := by
  refine (dats m 0 c).arrAt_eq_of_covers 28 _ (by decide +kernel) fun t hf y => ?_
  blk_simp
  rw [after28, out28_eq]
  have hy : y = ix3 (n0 := 1) (n1 := 2048) (n2 := 1) 0 (y 1) 0 := by blk_ext
  have he : ((cfg0.win 28).blk t).view.emb y = ix3 (n0 := 4) (n1 := 2048) (n2 := 1) t (y 1) 0 := by
    blk_ext [idx_batch t]
  refine (congrArg (pay28 (ins m c t)) hy).trans ((probs_block m c t (y 1)).2.2.2.trans ?_)
  exact (congrArg (probArr (m ((c : Thread nD τ).loc main_arg0)) (m ((c : Thread nD τ).loc main_arg11))
    (m ((c : Thread nD τ).loc main_arg12))) he).symm

/-- The array of output 4 of the kernel: the semantic attention weights. -/
theorem final29 : (dats m 0 c).arrAt 29 cfg0.N = weightArr (semA m c) (m ((c : Thread nD τ).loc main_arg0))
    (m ((c : Thread nD τ).loc main_arg1)) := by
  refine (dats m 0 c).arrAt_eq_of_covers 29 _ (by decide +kernel) fun t hf y => ?_
  blk_simp
  rw [after29, out29_eq]
  have hy : y = ix3 (n0 := 1) (n1 := 16) (n2 := 2048) 0 (y 1) (y 2) := by blk_ext
  have he : ((cfg0.win 29).blk t).view.emb y = ix3 (n0 := 4) (n1 := 16) (n2 := 2048) t (y 1) (y 2) := by
    blk_ext [idx_batch t]
  refine (congrArg (pay29 (ins m c t)) hy).trans ((weights_block m c t (y 1) (y 2)).1.trans ?_)
  exact (congrArg (weightArr (semA m c) (m ((c : Thread nD τ).loc main_arg0)) (m ((c : Thread nD τ).loc main_arg1)))
    he).symm

/-- The array of output 5 of the kernel: the semantic contexts. -/
theorem final30 : (dats m 0 c).arrAt 30 cfg0.N = ctxArr (semA m c) (m ((c : Thread nD τ).loc main_arg0))
    (m ((c : Thread nD τ).loc main_arg1)) := by
  refine (dats m 0 c).arrAt_eq_of_covers 30 _ (by decide +kernel) fun t hf y => ?_
  blk_simp
  rw [after30, out30_eq]
  have hy : y = ix3 (n0 := 1) (n1 := 16) (n2 := 768) 0 (y 1) (y 2) := by blk_ext
  have he : ((cfg0.win 30).blk t).view.emb y = ix3 (n0 := 4) (n1 := 16) (n2 := 768) t (y 1) (y 2) := by
    blk_ext [idx_batch t]
  refine (congrArg (pay30 (ins m c t)) hy).trans ((ctxs_block m c t (y 1) (y 2)).1.trans ?_)
  exact (congrArg (ctxArr (semA m c) (m ((c : Thread nD τ).loc main_arg0)) (m ((c : Thread nD τ).loc main_arg1)))
    he).symm

/-- The array of output 6 of the kernel: the transition attention weights. -/
theorem final31 : (dats m 0 c).arrAt 31 cfg0.N = weightArr (trA m c) (m ((c : Thread nD τ).loc main_arg0))
    (m ((c : Thread nD τ).loc main_arg1)) := by
  refine (dats m 0 c).arrAt_eq_of_covers 31 _ (by decide +kernel) fun t hf y => ?_
  blk_simp
  rw [after31, out31_eq]
  have hy : y = ix3 (n0 := 1) (n1 := 16) (n2 := 2048) 0 (y 1) (y 2) := by blk_ext
  have he : ((cfg0.win 31).blk t).view.emb y = ix3 (n0 := 4) (n1 := 16) (n2 := 2048) t (y 1) (y 2) := by
    blk_ext [idx_batch t]
  refine (congrArg (pay31 (ins m c t)) hy).trans ((weights_block m c t (y 1) (y 2)).2.trans ?_)
  exact (congrArg (weightArr (trA m c) (m ((c : Thread nD τ).loc main_arg0)) (m ((c : Thread nD τ).loc main_arg1)))
    he).symm

/-- The array of output 7 of the kernel: the transition contexts. -/
theorem final32 : (dats m 0 c).arrAt 32 cfg0.N = ctxArr (trA m c) (m ((c : Thread nD τ).loc main_arg0))
    (m ((c : Thread nD τ).loc main_arg1)) := by
  refine (dats m 0 c).arrAt_eq_of_covers 32 _ (by decide +kernel) fun t hf y => ?_
  blk_simp
  rw [after32, out32_eq]
  have hy : y = ix3 (n0 := 1) (n1 := 16) (n2 := 768) 0 (y 1) (y 2) := by blk_ext
  have he : ((cfg0.win 32).blk t).view.emb y = ix3 (n0 := 4) (n1 := 16) (n2 := 768) t (y 1) (y 2) := by
    blk_ext [idx_batch t]
  refine (congrArg (pay32 (ins m c t)) hy).trans ((ctxs_block m c t (y 1) (y 2)).2.trans ?_)
  exact (congrArg (ctxArr (trA m c) (m ((c : Thread nD τ).loc main_arg0)) (m ((c : Thread nD τ).loc main_arg1)))
    he).symm

end Cert.Proof.Arr

end
-- ==== Proof.Ref.lean ====
/- What the reference computes: each of its results, read at an index, is the mathematics of Spec. -/
module

public import proofs.«01_k».proof.Proof.Gen.ReferenceIdeal.Read
public import proofs.«01_k».proof.Proof.Spec
public import Idealize.ShloMosaic.Lib.Pointwise

@[expose] public section

set_option maxRecDepth 16384

noncomputable section

namespace Cert.Proof.Ref

open Cert.ReferenceIdeal Cert.ReferenceIdeal.Gen Cert.ReferenceIdeal.Read Cert.Spec Idealize.ShloMosaic

/-- The contents of an f32 array of shape `s` over the extended reals. -/
abbrev Arr (s : Shape) : Type := (⟨s, .f32⟩ : BufTy).Contents (Elt Ideal)

/-- The word of −∞ denotes the least extended real. -/
theorem ninf : Ideal.ofBits .f32 0xFF800000#32 = ⊥ := by simp [Ideal.ofBits, Ideal.ieee]

/-! ## The entity probabilities -/

/-- The first probability: the other three are the same term of other weights. -/
theorem prob_apply (x : Arr S4x2048x768) (w : Arr S768x1) (c : Arr S1) (b : Fin 4) (p : Fin 2048) (z : Fin 1) :
    val_main_v9 (F := Ideal) x w c (ix3 b p z) = probOf x w c b p := by
  obtain rfl : z = 0 := Subsingleton.elim _ _
  pointwise [val_main_v0, val_main_v1, val_main_v2, val_main_v3, val_main_v4, val_main_v5, val_main_cst, val_main_v6,
    val_main_v7, val_main_cst_0, val_main_v8, val_main_v9]
  rfl

/-! ## The semantic attention -/

section
variable (x0 : Arr S4x2048x768) (x1 : Arr S4x768) (x3 : Arr S16x768) (x13 : Arr S768x256) (x14 : Arr S256)
    (x15 : Arr S768x256) (x16 : Arr S256) (x17 : Arr S768x256) (x18 : Arr S256) (x19 : Arr S256x1) (x20 : Arr S1)
  (b : Fin 4) (r : Fin 16)

/-- A hidden unit before the hyperbolic tangent. -/
theorem sem_unit (p : Fin 2048) (h : Fin 256) :
    val_main_v59 (F := Ideal) x0 x1 x3 x13 x14 x15 x16 x17 x18 (ix4 b r p h) =
      (attnOf x3 x13 x14 x15 x16 x17 x18 x19 x20).unit (tokens x0 b) (mean x1 b) r p h := by
  pointwise [val_main_v40, val_main_v41, val_main_v42, val_main_v43, val_main_v44, val_main_v45, val_main_v46,
    val_main_v47, val_main_v48, val_main_v49, val_main_v50, val_main_v51, val_main_v52, val_main_v53, val_main_v54,
    val_main_v55, val_main_v56, val_main_v57, val_main_v58, val_main_v59]
  rfl

/-- A score. -/
theorem sem_score (p : Fin 2048) :
    val_main_v65 (F := Ideal) x0 x1 x3 x13 x14 x15 x16 x17 x18 x19 x20 (ix3 b r p) =
      (attnOf x3 x13 x14 x15 x16 x17 x18 x19 x20).score (tokens x0 b) (mean x1 b) r p := by
  pointwise [val_main_v60, val_main_v61, val_main_v62, val_main_v63, val_main_v64, val_main_v65]
  simp only [sem_unit x0 x1 x3 x13 x14 x15 x16 x17 x18 x19 x20]
  rfl

/-- The greatest score, that is `val_main_v68` (the reference takes the maximum with −∞ once more). -/
theorem sem_top :
    val_main_v68 (F := Ideal) x0 x1 x3 x13 x14 x15 x16 x17 x18 x19 x20 (ix2 b r) = top
      ((attnOf x3 x13 x14 x15 x16 x17 x18 x19 x20).score (tokens x0 b) (mean x1 b) r) := by
  pointwise [val_main_v66, val_main_v67, val_main_v68, val_main_cst_7, val_main_cst_8]
  simp only [sem_score, ninf]
  exact max_eq_right bot_le

/-- The exponential of a score less the greatest. -/
theorem sem_exp (p : Fin 2048) :
    val_main_v72 (F := Ideal) x0 x1 x3 x13 x14 x15 x16 x17 x18 x19 x20 (ix3 b r p)
      = Ideal.exp ((attnOf x3 x13 x14 x15 x16 x17 x18 x19 x20).score (tokens x0 b) (mean x1 b) r p - top
        ((attnOf x3 x13 x14 x15 x16 x17 x18 x19 x20).score (tokens x0 b) (mean x1 b) r)) := by
  pointwise [val_main_v69, val_main_v70, val_main_v71, val_main_v72]
  simp only [sem_score, sem_top]

/-- An attention weight. -/
theorem sem_weight (p : Fin 2048) :
    val_main_v76 (F := Ideal) x0 x1 x3 x13 x14 x15 x16 x17 x18 x19 x20 (ix3 b r p) =
      (attnOf x3 x13 x14 x15 x16 x17 x18 x19 x20).weight (tokens x0 b) (mean x1 b) r p := by
  pointwise [val_main_v73, val_main_v74, val_main_v75, val_main_v76, val_main_cst_9]
  simp only [sem_exp]
  rfl

/-- A component of a context. -/
theorem sem_ctx (e : Fin 768) :
    val_main_v77 (F := Ideal) x0 x1 x3 x13 x14 x15 x16 x17 x18 x19 x20 (ix3 b r e) =
      (attnOf x3 x13 x14 x15 x16 x17 x18 x19 x20).ctx (tokens x0 b) (mean x1 b) r e := by
  pointwise [val_main_v77]
  simp only [sem_weight]
  rfl

end

/-! ## The transition attention -/

section
variable (x0 : Arr S4x2048x768) (x1 : Arr S4x768) (x4 : Arr S16x100) (x21 : Arr S100x256) (x22 : Arr S256)
    (x23 : Arr S768x256) (x24 : Arr S256) (x25 : Arr S768x256) (x26 : Arr S256) (x27 : Arr S256x1) (x28 : Arr S1)
  (b : Fin 4) (r : Fin 16)

/-- A hidden unit before the hyperbolic tangent. -/
theorem tr_unit (p : Fin 2048) (h : Fin 256) :
    val_main_v97 (F := Ideal) x0 x1 x4 x21 x22 x23 x24 x25 x26 (ix4 b r p h) =
      (attnOf x4 x21 x22 x23 x24 x25 x26 x27 x28).unit (tokens x0 b) (mean x1 b) r p h := by
  pointwise [val_main_v78, val_main_v79, val_main_v80, val_main_v81, val_main_v82, val_main_v83, val_main_v84,
    val_main_v85, val_main_v86, val_main_v87, val_main_v88, val_main_v89, val_main_v90, val_main_v91, val_main_v92,
    val_main_v93, val_main_v94, val_main_v95, val_main_v96, val_main_v97]
  rfl

/-- A score. -/
theorem tr_score (p : Fin 2048) :
    val_main_v103 (F := Ideal) x0 x1 x4 x21 x22 x23 x24 x25 x26 x27 x28 (ix3 b r p) =
      (attnOf x4 x21 x22 x23 x24 x25 x26 x27 x28).score (tokens x0 b) (mean x1 b) r p := by
  pointwise [val_main_v98, val_main_v99, val_main_v100, val_main_v101, val_main_v102, val_main_v103]
  simp only [tr_unit x0 x1 x4 x21 x22 x23 x24 x25 x26 x27 x28]
  rfl

/-- The greatest score, that is `val_main_v106` (the reference takes the maximum with −∞ once more). -/
theorem tr_top :
    val_main_v106 (F := Ideal) x0 x1 x4 x21 x22 x23 x24 x25 x26 x27 x28 (ix2 b r) = top
      ((attnOf x4 x21 x22 x23 x24 x25 x26 x27 x28).score (tokens x0 b) (mean x1 b) r) := by
  pointwise [val_main_v104, val_main_v105, val_main_v106, val_main_cst_10, val_main_cst_11]
  simp only [tr_score, ninf]
  exact max_eq_right bot_le

/-- The exponential of a score less the greatest. -/
theorem tr_exp (p : Fin 2048) :
    val_main_v110 (F := Ideal) x0 x1 x4 x21 x22 x23 x24 x25 x26 x27 x28 (ix3 b r p)
      = Ideal.exp ((attnOf x4 x21 x22 x23 x24 x25 x26 x27 x28).score (tokens x0 b) (mean x1 b) r p - top
        ((attnOf x4 x21 x22 x23 x24 x25 x26 x27 x28).score (tokens x0 b) (mean x1 b) r)) := by
  pointwise [val_main_v107, val_main_v108, val_main_v109, val_main_v110]
  simp only [tr_score, tr_top]

/-- An attention weight. -/
theorem tr_weight (p : Fin 2048) :
    val_main_v114 (F := Ideal) x0 x1 x4 x21 x22 x23 x24 x25 x26 x27 x28 (ix3 b r p) =
      (attnOf x4 x21 x22 x23 x24 x25 x26 x27 x28).weight (tokens x0 b) (mean x1 b) r p := by
  pointwise [val_main_v111, val_main_v112, val_main_v113, val_main_v114, val_main_cst_12]
  simp only [tr_exp]
  rfl

/-- A component of a context. -/
theorem tr_ctx (e : Fin 768) :
    val_main_v115 (F := Ideal) x0 x1 x4 x21 x22 x23 x24 x25 x26 x27 x28 (ix3 b r e) =
      (attnOf x4 x21 x22 x23 x24 x25 x26 x27 x28).ctx (tokens x0 b) (mean x1 b) r e := by
  pointwise [val_main_v115]
  simp only [tr_weight]
  rfl

end

end Cert.Proof.Ref

end
-- ==== Proof.RefArr.lean ====
/- What the reference's eight results are as whole arrays. -/
module

public import proofs.«01_k».proof.Proof.Ref

@[expose] public section

set_option maxRecDepth 16384

noncomputable section

namespace Cert.Proof.Ref

open Cert.ReferenceIdeal Cert.ReferenceIdeal.Gen Cert.ReferenceIdeal.Read Cert.Spec Idealize.ShloMosaic

variable (x0 : Arr S4x2048x768) (x1 : Arr S4x768)

/-- An entity probability; the four of them are this one function. -/
theorem prob_arr (w : Arr S768x1) (c : Arr S1) : val_main_v9 (F := Ideal) x0 w c = probArr x0 w c := by
  funext i
  exact (congrArg _ (eq_ix3 i)).trans (prob_apply x0 w c (i 0) (i 1) (i 2))

/-- The semantic attention weights. -/
theorem sem_weight_arr (x3 : Arr S16x768) (x13 : Arr S768x256) (x14 : Arr S256) (x15 : Arr S768x256) (x16 : Arr S256)
    (x17 : Arr S768x256) (x18 : Arr S256) (x19 : Arr S256x1) (x20 : Arr S1) :
    val_main_v76 (F := Ideal) x0 x1 x3 x13 x14 x15 x16 x17 x18 x19 x20 = weightArr
      (attnOf x3 x13 x14 x15 x16 x17 x18 x19 x20) x0 x1 := by
  funext i
  exact (congrArg _ (eq_ix3 i)).trans (sem_weight x0 x1 x3 x13 x14 x15 x16 x17 x18 x19 x20 (i 0) (i 1) (i 2))

/-- The semantic contexts. -/
theorem sem_ctx_arr (x3 : Arr S16x768) (x13 : Arr S768x256) (x14 : Arr S256) (x15 : Arr S768x256) (x16 : Arr S256)
    (x17 : Arr S768x256) (x18 : Arr S256) (x19 : Arr S256x1) (x20 : Arr S1) :
    val_main_v77 (F := Ideal) x0 x1 x3 x13 x14 x15 x16 x17 x18 x19 x20 = ctxArr
      (attnOf x3 x13 x14 x15 x16 x17 x18 x19 x20) x0 x1 := by
  funext i
  exact (congrArg _ (eq_ix3 i)).trans (sem_ctx x0 x1 x3 x13 x14 x15 x16 x17 x18 x19 x20 (i 0) (i 1) (i 2))

/-- The transition attention weights. -/
theorem tr_weight_arr (x4 : Arr S16x100) (x21 : Arr S100x256) (x22 : Arr S256) (x23 : Arr S768x256) (x24 : Arr S256)
    (x25 : Arr S768x256) (x26 : Arr S256) (x27 : Arr S256x1) (x28 : Arr S1) :
    val_main_v114 (F := Ideal) x0 x1 x4 x21 x22 x23 x24 x25 x26 x27 x28 = weightArr
      (attnOf x4 x21 x22 x23 x24 x25 x26 x27 x28) x0 x1 := by
  funext i
  exact (congrArg _ (eq_ix3 i)).trans (tr_weight x0 x1 x4 x21 x22 x23 x24 x25 x26 x27 x28 (i 0) (i 1) (i 2))

/-- The transition contexts. -/
theorem tr_ctx_arr (x4 : Arr S16x100) (x21 : Arr S100x256) (x22 : Arr S256) (x23 : Arr S768x256) (x24 : Arr S256)
    (x25 : Arr S768x256) (x26 : Arr S256) (x27 : Arr S256x1) (x28 : Arr S1) :
    val_main_v115 (F := Ideal) x0 x1 x4 x21 x22 x23 x24 x25 x26 x27 x28 = ctxArr
      (attnOf x4 x21 x22 x23 x24 x25 x26 x27 x28) x0 x1 := by
  funext i
  exact (congrArg _ (eq_ix3 i)).trans (tr_ctx x0 x1 x4 x21 x22 x23 x24 x25 x26 x27 x28 (i 0) (i 1) (i 2))

end Cert.Proof.Ref

end
-- ==== Proof.Equation.lean ====
/- The kernel and the reference return the same eight arrays, whatever the arguments hold. -/
module

public import proofs.«01_k».proof.Defs
public import proofs.«01_k».proof.Proof.Results
public import proofs.«01_k».proof.Proof.RefArr
public import proofs.«01_k».proof.Proof.Frames

@[expose] public section

set_option maxRecDepth 16384

noncomputable section

namespace Cert.Proof

open Idealize.ShloMosaic Idealize.SL.Sem Cert.Spec Cert.Proof.Arr

set_option maxHeartbeats 4000000 in
/-- From arguments that agree, every run of the kernel and every run of the reference ends with the same eight results:
    the four entity probabilities, and of each attention the contexts and the weights. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => probArr (m ((c.tc : Thread Cert.KernelIdeal.nD Cert.KernelIdeal.τ).loc
    Cert.KernelIdeal.main_arg0)) (m ((c.tc : Thread Cert.KernelIdeal.nD Cert.KernelIdeal.τ).loc
    Cert.KernelIdeal.main_arg5)) (m ((c.tc : Thread Cert.KernelIdeal.nD Cert.KernelIdeal.τ).loc
    Cert.KernelIdeal.main_arg6)),
    fun c => probArr (m ((c.tc : Thread Cert.KernelIdeal.nD Cert.KernelIdeal.τ).loc Cert.KernelIdeal.main_arg0))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => probArr (m ((c.tc : Thread Cert.KernelIdeal.nD Cert.KernelIdeal.τ).loc Cert.KernelIdeal.main_arg0))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    fun c => probArr (m ((c.tc : Thread Cert.KernelIdeal.nD Cert.KernelIdeal.τ).loc Cert.KernelIdeal.main_arg0))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    fun c => ctxArr (semA m c) (m ((c.tc : Thread Cert.KernelIdeal.nD Cert.KernelIdeal.τ).loc
      Cert.KernelIdeal.main_arg0)) (m ((c.tc : Thread Cert.KernelIdeal.nD Cert.KernelIdeal.τ).loc
      Cert.KernelIdeal.main_arg1)),
    fun c => weightArr (semA m c) (m ((c.tc : Thread Cert.KernelIdeal.nD Cert.KernelIdeal.τ).loc
      Cert.KernelIdeal.main_arg0)) (m ((c.tc : Thread Cert.KernelIdeal.nD Cert.KernelIdeal.τ).loc
      Cert.KernelIdeal.main_arg1)),
    fun c => ctxArr (trA m c) (m ((c.tc : Thread Cert.KernelIdeal.nD Cert.KernelIdeal.τ).loc
      Cert.KernelIdeal.main_arg0)) (m ((c.tc : Thread Cert.KernelIdeal.nD Cert.KernelIdeal.τ).loc
      Cert.KernelIdeal.main_arg1)),
    fun c => weightArr (trA m c) (m ((c.tc : Thread Cert.KernelIdeal.nD Cert.KernelIdeal.τ).loc
      Cert.KernelIdeal.main_arg0)) (m ((c.tc : Thread Cert.KernelIdeal.nD Cert.KernelIdeal.τ).loc
      Cert.KernelIdeal.main_arg1)), ?_, ?_⟩
  · refine (θ_run Cert.KernelIdeal.defs _ _).mono (fun r h c => ?_)
      (θ_run_and (Cert.KernelIdeal.Hand.run_main m g) (Cert.KernelIdeal.Hand.unchanged m g))
    exact ⟨((h.1 c).1 25).trans (final25 m c),
      ((h.1 c).1 26).trans (final26 m c),
      ((h.1 c).1 27).trans (final27 m c),
      ((h.1 c).1 28).trans (final28 m c),
      ((h.1 c).1 30).trans (final30 m c),
      ((h.1 c).1 29).trans (final29 m c),
      ((h.1 c).1 32).trans (final32 m c),
      ((h.1 c).1 31).trans (final31 m c),
      h.2 c⟩
  · refine (θ_run Cert.ReferenceIdeal.defs _ _).mono (fun r h c => ?_)
      (Cert.ReferenceIdeal.Value.run (F := Ideal) m' g')
    obtain ⟨a0, a1, a2, a3, a4, a5, a6, a7, a8, a9, a10, a11, a12, a13, a14, a15, a16, a17, a18, a19, a20, a21, a22,
      a23, a24, a25, a26, a27, a28⟩ := hargs c
    obtain ⟨h0, h1, h2, h3, h4, h5, h6, h7, hk⟩ := h c
    refine ⟨h0.trans ?_, h1.trans ?_, h2.trans ?_, h3.trans ?_,
      (h4.trans (Cert.ReferenceIdeal.Read.val_main_v77_eq m' c)).trans ?_,
      (h5.trans (Cert.ReferenceIdeal.Read.val_main_v76_eq m' c)).trans ?_,
        (h6.trans (Cert.ReferenceIdeal.Read.val_main_v115_eq m' c)).trans ?_,
      (h7.trans (Cert.ReferenceIdeal.Read.val_main_v114_eq m' c)).trans ?_, hk⟩
    · rw [a0, a5, a6]; exact Ref.prob_arr _ _ _
    · rw [a0, a7, a8]; exact Ref.prob_arr _ _ _
    · rw [a0, a9, a10]; exact Ref.prob_arr _ _ _
    · rw [a0, a11, a12]; exact Ref.prob_arr _ _ _
    · rw [a0, a1, a3, a13, a14, a15, a16, a17, a18, a19, a20]; exact Ref.sem_ctx_arr _ _ _ _ _ _ _ _ _ _ _
    · rw [a0, a1, a3, a13, a14, a15, a16, a17, a18, a19, a20]; exact Ref.sem_weight_arr _ _ _ _ _ _ _ _ _ _ _
    · rw [a0, a1, a4, a21, a22, a23, a24, a25, a26, a27, a28]; exact Ref.tr_ctx_arr _ _ _ _ _ _ _ _ _ _ _
    · rw [a0, a1, a4, a21, a22, a23, a24, a25, a26, a27, a28]; exact Ref.tr_weight_arr _ _ _ _ _ _ _ _ _ _ _

end Cert.Proof

end
-- ==== Proof.lean ====
module

public import proofs.«01_k».proof.Defs
public import proofs.«01_k».proof.Proof.Frames
public import proofs.«01_k».proof.Proof.Equation

@[expose] public section

noncomputable section

namespace Cert.Proof

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
